-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  IdealRules.named_const.Statement Cert.Kernel2Ideal.κ "head_scale" .f32 0x3DB504F3#32 (((Real.sqrt 128)⁻¹ : ℝ) : EReal)
  ∧ IdealRules.named_const.Statement Cert.Kernel2Ideal.κ "query_scale" .f32 0x3E0293EE#32 (((Real.sqrt 128)⁻¹ * (Real.log 2)⁻¹ : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v35_0)) (v1 : (c : Dev Cert.Kernel2Ideal.nD) → Buf (Elt Ideal) ((c.tc : Thread Cert.Kernel2Ideal.nD Cert.Kernel2Ideal.τ).loc Cert.Kernel2Ideal.main_v35_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v35_0) = v0 c
          ∧ r.2.mem ((c.tc : Thread Cert.Kernel2Ideal.nD Cert.Kernel2Ideal.τ).loc Cert.Kernel2Ideal.main_v35_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v110) = v0 c
          ∧ r.2.mem ((c.tc : Thread Cert.Reference2Ideal.nD Cert.Reference2Ideal.τ).loc Cert.Reference2Ideal.main_v114) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v22)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite.lean ====
abbrev S4x4096x1536 : Shape := ⟨3, ![4, 4096, 1536]⟩
abbrev S4x4096x512 : Shape := ⟨3, ![4, 4096, 512]⟩
abbrev S4x256x1024 : Shape := ⟨3, ![4, 256, 1024]⟩
abbrev S1024x512 : Shape := ⟨2, ![1024, 512]⟩
abbrev S2048x1024 : Shape := ⟨2, ![2048, 1024]⟩
abbrev S4x4096x1024 : Shape := ⟨3, ![4, 4096, 1024]⟩
abbrev S1024 : Shape := ⟨1, ![1024]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S4x256x1024 : S_.BroadcastsInDim S4x256x1024 (![] : Fin 0 → Fin S4x256x1024.rank)
  reducesTo_S4x256x1024_S_d0_1_2 : S4x256x1024.ReducesTo [0, 1, 2] S_
  bcast_S_S1024x512 : S_.BroadcastsInDim S1024x512 (![] : Fin 0 → Fin S1024x512.rank)
  reducesTo_S1024x512_S_d0_1 : S1024x512.ReducesTo [0, 1] S_

variable [Facts]

def fn_part1 {F : FTy → Type} [FloatOps F] (main_arg5 : FVec F S1024x512 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S1024x512 .f32 := Host.absf main_arg5
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  main_v23

def fn {F : FTy → Type} [FloatOps F] (main_arg0 : FVec F S4x4096x1536 .f32) (main_arg1 : FVec F S4x4096x512 .f32) (main_arg2 : FVec F S4x4096x512 .f32) (main_arg3 : FVec F S4x256x1024 .f32) (main_arg4 : FVec F S1024x512 .f32) (main_arg5 : FVec F S1024x512 .f32) (main_arg6 : FVec F S2048x1024 .f32) (main_arg7 : FVec F S4x4096x1024 .f32) (main_arg8 : FVec F S1024 .f32) (main_arg9 : FVec F S1024 .f32) : IVec S_ 1 :=
  let main_v0 : FVec F S4x4096x512 .f32 := Host.absf main_arg1
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S4x4096x512 .f32 := Host.absf main_arg2
  let main_cst_0 : FVec F S_ .f32 := constant S_ .f32 0x7F800000#32
  let main_v5 : FVec F S4x4096x512 .f32 := broadcastInDim S4x4096x512 ![] bcast_S_S4x4096x512 main_cst_0
  let main_v6 : IVec S4x4096x512 1 := cmpf .olt main_v4 main_v5
  let main_c_1 : IVec S_ 1 := constantI S_ 1 1#1
  let main_v7 : IVec S_ 1 := (fun x v => Host.reduce IntOp.andi x v reducesTo_S4x4096x512_S_d0_1_2 h_S_) main_v6 main_c_1
  let main_v8 : IVec S_ 1 := andi main_v3 main_v7
  let main_v9 : FVec F S4x256x1024 .f32 := Host.absf main_arg3
  let main_cst_2 : FVec F S_ .f32 := constant S_ .f32 0x7F800000#32
  let main_v10 : FVec F S4x256x1024 .f32 := broadcastInDim S4x256x1024 ![] bcast_S_S4x256x1024 main_cst_2
  let main_v11 : IVec S4x256x1024 1 := cmpf .olt main_v9 main_v10
  let main_c_3 : IVec S_ 1 := constantI S_ 1 1#1
  let main_v12 : IVec S_ 1 := (fun x v => Host.reduce IntOp.andi x v reducesTo_S4x256x1024_S_d0_1_2 h_S_) main_v11 main_c_3
  let main_v13 : IVec S_ 1 := andi main_v8 main_v12
  let main_v14 : FVec F S1024x512 .f32 := Host.absf main_arg4
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg5 main_v13 main_v16
-- ==== Pre_finite2.lean ====
abbrev S4x4096x1024 : Shape := ⟨3, ![4, 4096, 1024]⟩
abbrev S4x4096 : Shape := ⟨2, ![4, 4096]⟩
abbrev S1024x7184 : Shape := ⟨2, ![1024, 7184]⟩
abbrev S16x512 : Shape := ⟨2, ![16, 512]⟩
abbrev S512 : Shape := ⟨1, ![512]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x7184 : S_.BroadcastsInDim S1024x7184 (![] : Fin 0 → Fin S1024x7184.rank)
  reducesTo_S1024x7184_S_d0_1 : S1024x7184.ReducesTo [0, 1] S_

variable [Facts]

def fn {F : FTy → Type} [FloatOps F] (main_arg0 : FVec F S4x4096x1024 .f32) (main_arg1 : IVec S4x4096 32) (main_arg2 : FVec F S1024x7184 .f32) (main_arg3 : FVec F S16x512 .f32) (main_arg4 : FVec F S512 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x7184 .f32 := Host.absf main_arg2
  let main_cst_0 : FVec F S_ .f32 := constant S_ .f32 0x7F800000#32
  let main_v5 : FVec F S1024x7184 .f32 := broadcastInDim S1024x7184 ![] bcast_S_S1024x7184 main_cst_0
  let main_v6 : IVec S1024x7184 1 := cmpf .olt main_v4 main_v5
  let main_c_1 : IVec S_ 1 := constantI S_ 1 1#1
  let main_v7 : IVec S_ 1 := (fun x v => Host.reduce IntOp.andi x v reducesTo_S1024x7184_S_d0_1 h_S_) main_v6 main_c_1
  let main_v8 : IVec S_ 1 := andi main_v3 main_v7
  main_v8
-- ==== Pre_finite3.lean ====
abbrev S4x4096x1024 : Shape := ⟨3, ![4, 4096, 1024]⟩
abbrev S4x4096x512 : Shape := ⟨3, ![4, 4096, 512]⟩
abbrev S4x256x1024 : Shape := ⟨3, ![4, 256, 1024]⟩
abbrev S1024x512 : Shape := ⟨2, ![1024, 512]⟩
abbrev S2048x1024 : Shape := ⟨2, ![2048, 1024]⟩
abbrev S1024 : Shape := ⟨1, ![1024]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S4x256x1024 : S_.BroadcastsInDim S4x256x1024 (![] : Fin 0 → Fin S4x256x1024.rank)
  reducesTo_S4x256x1024_S_d0_1_2 : S4x256x1024.ReducesTo [0, 1, 2] S_
  bcast_S_S1024x512 : S_.BroadcastsInDim S1024x512 (![] : Fin 0 → Fin S1024x512.rank)
  reducesTo_S1024x512_S_d0_1 : S1024x512.ReducesTo [0, 1] S_

variable [Facts]

def fn_part1 {F : FTy → Type} [FloatOps F] (main_arg6 : FVec F S1024x512 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S1024x512 .f32 := Host.absf main_arg6
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  main_v23

def fn {F : FTy → Type} [FloatOps F] (main_arg0 : FVec F S4x4096x1024 .f32) (main_arg1 : FVec F S4x4096x512 .f32) (main_arg2 : FVec F S4x4096x512 .f32) (main_arg3 : FVec F S4x4096x512 .f32) (main_arg4 : FVec F S4x256x1024 .f32) (main_arg5 : FVec F S1024x512 .f32) (main_arg6 : FVec F S1024x512 .f32) (main_arg7 : FVec F S2048x1024 .f32) (main_arg8 : FVec F S4x4096x1024 .f32) (main_arg9 : FVec F S1024 .f32) (main_arg10 : FVec F S1024 .f32) : IVec S_ 1 :=
  let main_v0 : FVec F S4x4096x512 .f32 := Host.absf main_arg2
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S4x4096x512 .f32 := Host.absf main_arg3
  let main_cst_0 : FVec F S_ .f32 := constant S_ .f32 0x7F800000#32
  let main_v5 : FVec F S4x4096x512 .f32 := broadcastInDim S4x4096x512 ![] bcast_S_S4x4096x512 main_cst_0
  let main_v6 : IVec S4x4096x512 1 := cmpf .olt main_v4 main_v5
  let main_c_1 : IVec S_ 1 := constantI S_ 1 1#1
  let main_v7 : IVec S_ 1 := (fun x v => Host.reduce IntOp.andi x v reducesTo_S4x4096x512_S_d0_1_2 h_S_) main_v6 main_c_1
  let main_v8 : IVec S_ 1 := andi main_v3 main_v7
  let main_v9 : FVec F S4x256x1024 .f32 := Host.absf main_arg4
  let main_cst_2 : FVec F S_ .f32 := constant S_ .f32 0x7F800000#32
  let main_v10 : FVec F S4x256x1024 .f32 := broadcastInDim S4x256x1024 ![] bcast_S_S4x256x1024 main_cst_2
  let main_v11 : IVec S4x256x1024 1 := cmpf .olt main_v9 main_v10
  let main_c_3 : IVec S_ 1 := constantI S_ 1 1#1
  let main_v12 : IVec S_ 1 := (fun x v => Host.reduce IntOp.andi x v reducesTo_S4x256x1024_S_d0_1_2 h_S_) main_v11 main_c_3
  let main_v13 : IVec S_ 1 := andi main_v8 main_v12
  let main_v14 : FVec F S1024x512 .f32 := Host.absf main_arg5
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg6 main_v13 main_v16
-- ==== Kernel.lean ====
abbrev S4x4096x1536 : Shape := ⟨3, ![4, 4096, 1536]⟩
abbrev S4x4096x512 : Shape := ⟨3, ![4, 4096, 512]⟩
abbrev S4x256x1024 : Shape := ⟨3, ![4, 256, 1024]⟩
abbrev S1024x512 : Shape := ⟨2, ![1024, 512]⟩
abbrev S2048x1024 : Shape := ⟨2, ![2048, 1024]⟩
abbrev S4x4096x1024 : Shape := ⟨3, ![4, 4096, 1024]⟩
abbrev S1024 : Shape := ⟨1, ![1024]⟩
abbrev S16384x512 : Shape := ⟨2, ![16384, 512]⟩
abbrev S_ : Shape := ⟨0, ![]⟩
abbrev S16384x1024 : Shape := ⟨2, ![16384, 1024]⟩
abbrev S16384x1536 : Shape := ⟨2, ![16384, 1536]⟩
abbrev S1x1024 : Shape := ⟨2, ![1, 1024]⟩
abbrev S1024x1536 : Shape := ⟨2, ![1024, 1536]⟩
abbrev S1x256x1024 : Shape := ⟨3, ![1, 256, 1024]⟩
abbrev S1024x1024 : Shape := ⟨2, ![1024, 1024]⟩
abbrev S256x512 : Shape := ⟨2, ![256, 512]⟩
abbrev S256x1024 : Shape := ⟨2, ![256, 1024]⟩
abbrev S1024x128 : Shape := ⟨2, ![1024, 128]⟩
abbrev S256x128 : Shape := ⟨2, ![256, 128]⟩
abbrev S1024x256 : Shape := ⟨2, ![1024, 256]⟩
abbrev S1024x1 : Shape := ⟨2, ![1024, 1]⟩
abbrev S128x1024 : Shape := ⟨2, ![128, 1024]⟩
abbrev S128x1536 : Shape := ⟨2, ![128, 1536]⟩
abbrev S1536x1024 : Shape := ⟨2, ![1536, 1024]⟩
abbrev S128x512 : Shape := ⟨2, ![128, 512]⟩
abbrev S512x1024 : Shape := ⟨2, ![512, 1024]⟩
abbrev S128 : Shape := ⟨1, ![128]⟩
abbrev S128x1 : Shape := ⟨2, ![128, 1]⟩

abbrev nBuf : Space → Nat
  | .hbm => 33
  | .vmem => 21
  | .smem => 0
  | _ => 0

abbrev bufTy : (tb : Table) → Fin (tcTables nBuf tb) → BufTy
  | .hbm, ⟨0, _⟩ => ⟨S4x4096x1536, .f32⟩
  | .hbm, ⟨1, _⟩ => ⟨S4x4096x512, .f32⟩
  | .hbm, ⟨2, _⟩ => ⟨S4x4096x512, .f32⟩
  | .hbm, ⟨3, _⟩ => ⟨S4x256x1024, .f32⟩
  | .hbm, ⟨4, _⟩ => ⟨S1024x512, .f32⟩
  | .hbm, ⟨5, _⟩ => ⟨S1024x512, .f32⟩
  | .hbm, ⟨6, _⟩ => ⟨S2048x1024, .f32⟩
  | .hbm, ⟨7, _⟩ => ⟨S4x4096x1024, .f32⟩
  | .hbm, ⟨8, _⟩ => ⟨S1024, .f32⟩
  | .hbm, ⟨9, _⟩ => ⟨S1024, .f32⟩
  | .hbm, ⟨10, _⟩ => ⟨S16384x512, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S_, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x1024, .f32⟩
  | .hbm, ⟨26, _⟩ => ⟨S16384x1024, .bf16⟩
  | .hbm, ⟨27, _⟩ => ⟨S16384x1536, .f32⟩
  | .hbm, ⟨28, _⟩ => ⟨S16384x1536, .bf16⟩
  | .hbm, ⟨29, _⟩ => ⟨S16384x1024, .f32⟩
  | .hbm, ⟨30, _⟩ => ⟨S1x1024, .f32⟩
  | .hbm, ⟨31, _⟩ => ⟨S1x1024, .f32⟩
  | .hbm, ⟨32, _⟩ => ⟨S16384x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x256x1024, .f32⟩
  | .local _ .vmem, ⟨7, _⟩ => ⟨S1x256x1024, .f32⟩
  | .local _ .vmem, ⟨8, _⟩ => ⟨S1024x512, .f32⟩
  | .local _ .vmem, ⟨9, _⟩ => ⟨S1024x512, .f32⟩
  | .local _ .vmem, ⟨10, _⟩ => ⟨S2048x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S2048x1024, .bf16⟩
  | .local _ .vmem, ⟨18, _⟩ => ⟨S256x512, .bf16⟩
  | .local _ .vmem, ⟨19, _⟩ => ⟨S256x512, .bf16⟩
  | .local _ .vmem, ⟨20, _⟩ => ⟨S1024x512, .bf16⟩
  | _, _ => ⟨S4x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S4x4096x1536 : Shape := ⟨3, ![4, 4096, 1536]⟩
abbrev S4x4096x512 : Shape := ⟨3, ![4, 4096, 512]⟩
abbrev S4x256x1024 : Shape := ⟨3, ![4, 256, 1024]⟩
abbrev S1024x512 : Shape := ⟨2, ![1024, 512]⟩
abbrev S2048x1024 : Shape := ⟨2, ![2048, 1024]⟩
abbrev S4x4096x1024 : Shape := ⟨3, ![4, 4096, 1024]⟩
abbrev S1024 : Shape := ⟨1, ![1024]⟩
abbrev S4x4096x4x128 : Shape := ⟨4, ![4, 4096, 4, 128]⟩
abbrev S4x256x512 : Shape := ⟨3, ![4, 256, 512]⟩
abbrev S4x256x4x128 : Shape := ⟨4, ![4, 256, 4, 128]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩
abbrev S4x4096x2048 : Shape := ⟨3, ![4, 4096, 2048]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 83
  | .vmem => 0
  | .smem => 0
  | _ => 0

abbrev bufTy : (tb : Table) → Fin (tcTables nBuf tb) → BufTy
  | .hbm, ⟨0, _⟩ => ⟨S4x4096x1536, .f32⟩
  | .hbm, ⟨1, _⟩ => ⟨S4x4096x512, .f32⟩
  | .hbm, ⟨2, _⟩ => ⟨S4x4096x512, .f32⟩
  | .hbm, ⟨3, _⟩ => ⟨S4x256x1024, .f32⟩
  | .hbm, ⟨4, _⟩ => ⟨S1024x512, .f32⟩
  | .hbm, ⟨5, _⟩ => ⟨S1024x512, .f32⟩
  | .hbm, ⟨6, _⟩ => ⟨S2048x1024, .f32⟩
  | .hbm, ⟨7, _⟩ => ⟨S4x4096x1024, .f32⟩
  | .hbm, ⟨8, _⟩ => ⟨S1024, .f32⟩
  | .hbm, ⟨9, _⟩ => ⟨S1024, .f32⟩
  | .hbm, ⟨10, _⟩ => ⟨S4x4096x4x128, .f32⟩
  | .hbm, ⟨11, _⟩ => ⟨S4x256x512, .f32⟩
  | .hbm, ⟨12, _⟩ => ⟨S4x256x4x128, .f32⟩
  | .hbm, ⟨13, _⟩ => ⟨S4x256x512, .f32⟩
  | .hbm, ⟨14, _⟩ => ⟨S4x256x4x128, .f32⟩
  | .hbm, ⟨15, _⟩ => ⟨S4x4x4096x256, .f32⟩
  | .hbm, ⟨16, _⟩ => ⟨S_, .f32⟩
  | .hbm, ⟨17, _⟩ => ⟨S_, .f32⟩
  | .hbm, ⟨18, _⟩ => ⟨S4x4x4096x256, .f32⟩
  | .hbm, ⟨19, _⟩ => ⟨S4x4x4096x256, .f32⟩
  | .hbm, ⟨20, _⟩ => ⟨S_, .f32⟩
  | .hbm, ⟨21, _⟩ => ⟨S4x4x4096, .f32⟩
  | .hbm, ⟨22, _⟩ => ⟨S_, .f32⟩
  | .hbm, ⟨23, _⟩ => ⟨S4x4x4096, .f32⟩
  | .hbm, ⟨24, _⟩ => ⟨S4x4x4096, .f32⟩
  | .hbm, ⟨25, _⟩ => ⟨S4x4x4096x1, .f32⟩
  | .hbm, ⟨26, _⟩ => ⟨S4x4x4096x256, .f32⟩
  | .hbm, ⟨27, _⟩ => ⟨S4x4x4096x256, .f32⟩
  | .hbm, ⟨28, _⟩ => ⟨S4x4x4096x256, .f32⟩
  | .hbm, ⟨29, _⟩ => ⟨S_, .f32⟩
  | .hbm, ⟨30, _⟩ => ⟨S4x4x4096, .f32⟩
  | .hbm, ⟨31, _⟩ => ⟨S4x4x4096x1, .f32⟩
  | .hbm, ⟨32, _⟩ => ⟨S4x4x4096x256, .f32⟩
  | .hbm, ⟨33, _⟩ => ⟨S4x4x4096x256, .f32⟩
  | .hbm, ⟨34, _⟩ => ⟨S4x4x128x4096, .f32⟩
  | .hbm, ⟨35, _⟩ => ⟨S4x4096x4x128, .f32⟩
  | .hbm, ⟨36, _⟩ => ⟨S4x4096x512, .f32⟩
  | .hbm, ⟨37, _⟩ => ⟨S4x4096x512, .f32⟩
  | .hbm, ⟨38, _⟩ => ⟨S4x4096x512, .f32⟩
  | .hbm, ⟨39, _⟩ => ⟨S_, .f32⟩
  | .hbm, ⟨40, _⟩ => ⟨S4x4096x512, .f32⟩
  | .hbm, ⟨41, _⟩ => ⟨S4x4096x512, .f32⟩
  | .hbm, ⟨42, _⟩ => ⟨S_, .f32⟩
  | .hbm, ⟨43, _⟩ => ⟨S4x4096x512, .f32⟩
  | .hbm, ⟨44, _⟩ => ⟨S4x4096x512, .f32⟩
  | .hbm, ⟨45, _⟩ => ⟨S4x4096x512, .f32⟩
  | .hbm, ⟨46, _⟩ => ⟨S4x4096x512, .f32⟩
  | .hbm, ⟨47, _⟩ => ⟨S4x4096x2048, .f32⟩
  | .hbm, ⟨48, _⟩ => ⟨S4x4096x1024, .f32⟩
  | .hbm, ⟨49, _⟩ => ⟨S_, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S_, .f32⟩
  | .hbm, ⟨54, _⟩ => ⟨S4x4096, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S4x4096x1024, .f32⟩
  | .hbm, ⟨60, _⟩ => ⟨S4x4096x1024, .f32⟩
  | .hbm, ⟨61, _⟩ => ⟨S4x4096x1024, .f32⟩
  | .hbm, ⟨62, _⟩ => ⟨S_, .f32⟩
  | .hbm, ⟨63, _⟩ => ⟨S4x4096, .f32⟩
  | .hbm, ⟨64, _⟩ => ⟨S4x4096x1, .f32⟩
  | .hbm, ⟨65, _⟩ => ⟨S_, .f32⟩
  | .hbm, ⟨66, _⟩ => ⟨S4x4096x1, .f32⟩
  | .hbm, ⟨67, _⟩ => ⟨S4x4096x1, .f32⟩
  | .hbm, ⟨68, _⟩ => ⟨S4x4096x1024, .f32⟩
  | .hbm, ⟨69, _⟩ => ⟨S4x4096x1024, .f32⟩
  | .hbm, ⟨70, _⟩ => ⟨S_, .f32⟩
  | .hbm, ⟨71, _⟩ => ⟨S4x4096x1, .f32⟩
  | .hbm, ⟨72, _⟩ => ⟨S4x4096x1, .f32⟩
  | .hbm, ⟨73, _⟩ => ⟨S4x4096x1, .f32⟩
  | .hbm, ⟨74, _⟩ => ⟨S4x4096x1024, .f32⟩
  | .hbm, ⟨75, _⟩ => ⟨S4x4096x1024, .f32⟩
  | .hbm, ⟨76, _⟩ => ⟨S1x1x1024, .f32⟩
  | .hbm, ⟨77, _⟩ => ⟨S4x4096x1024, .f32⟩
  | .hbm, ⟨78, _⟩ => ⟨S4x4096x1024, .f32⟩
  | .hbm, ⟨79, _⟩ => ⟨S1x1x1024, .f32⟩
  | .hbm, ⟨80, _⟩ => ⟨S4x4096x1024, .f32⟩
  | .hbm, ⟨81, _⟩ => ⟨S4x4096x1024, .f32⟩
  | .hbm, ⟨82, _⟩ => ⟨S16384x1024, .f32⟩
  | _, _ => ⟨S4x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x4096 : Shape := ⟨2, ![4, 4096]⟩
abbrev S1024x7184 : Shape := ⟨2, ![1024, 7184]⟩
abbrev S16x512 : Shape := ⟨2, ![16, 512]⟩
abbrev S512 : Shape := ⟨1, ![512]⟩
abbrev S1024x16 : Shape := ⟨2, ![1024, 16]⟩
abbrev S1024x3072 : Shape := ⟨2, ![1024, 3072]⟩
abbrev S1024x4096 : Shape := ⟨2, ![1024, 4096]⟩
abbrev S_ : Shape := ⟨0, ![]⟩
abbrev S1024x128 : Shape := ⟨2, ![1024, 128]⟩
abbrev S1024x7296 : Shape := ⟨2, ![1024, 7296]⟩
abbrev S128x512 : Shape := ⟨2, ![128, 512]⟩
abbrev S16384x1024 : Shape := ⟨2, ![16384, 1024]⟩
abbrev S1x512 : Shape := ⟨2, ![1, 512]⟩
abbrev S32x2x256 : Shape := ⟨3, ![32, 2, 256]⟩
abbrev S32x256x2 : Shape := ⟨3, ![32, 256, 2]⟩
abbrev S32x256x2x64 : Shape := ⟨4, ![32, 256, 2, 64]⟩
abbrev S32x256x128 : Shape := ⟨3, ![32, 256, 128]⟩
abbrev S8192x128 : Shape := ⟨2, ![8192, 128]⟩
abbrev S64 : Shape := ⟨1, ![64]⟩
abbrev S128 : Shape := ⟨1, ![128]⟩
abbrev S1x128 : Shape := ⟨2, ![1, 128]⟩
abbrev S2x128 : Shape := ⟨2, ![2, 128]⟩
abbrev S16384x7680 : Shape := ⟨2, ![16384, 7680]⟩
abbrev S2048x512 : Shape := ⟨2, ![2048, 512]⟩
abbrev S512x1024 : Shape := ⟨2, ![512, 1024]⟩
abbrev S256x128 : Shape := ⟨2, ![256, 128]⟩
abbrev S512x7680 : Shape := ⟨2, ![512, 7680]⟩
abbrev S64x512 : Shape := ⟨2, ![64, 512]⟩
abbrev S512x128 : Shape := ⟨2, ![512, 128]⟩
abbrev S512x512 : Shape := ⟨2, ![512, 512]⟩
abbrev S1024x512 : Shape := ⟨2, ![1024, 512]⟩
abbrev S8x512 : Shape := ⟨2, ![8, 512]⟩

abbrev nBuf : Space → Nat
  | .hbm => 53
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S4x4096, .i32⟩
  | .hbm, ⟨2, _⟩ => ⟨S1024x7184, .f32⟩
  | .hbm, ⟨3, _⟩ => ⟨S16x512, .f32⟩
  | .hbm, ⟨4, _⟩ => ⟨S512, .f32⟩
  | .hbm, ⟨5, _⟩ => ⟨S1024x16, .f32⟩
  | .hbm, ⟨6, _⟩ => ⟨S1024x3072, .f32⟩
  | .hbm, ⟨7, _⟩ => ⟨S1024x4096, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x7296, .f32⟩
  | .hbm, ⟨12, _⟩ => ⟨S1024x7296, .bf16⟩
  | .hbm, ⟨13, _⟩ => ⟨S_, .i32⟩
  | .hbm, ⟨14, _⟩ => ⟨S_, .f32⟩
  | .hbm, ⟨15, _⟩ => ⟨S128x512, .f32⟩
  | .hbm, ⟨16, _⟩ => ⟨S128x512, .bf16⟩
  | .hbm, ⟨17, _⟩ => ⟨S16384x1024, .f32⟩
  | .hbm, ⟨18, _⟩ => ⟨S1x512, .f32⟩
  | .hbm, ⟨19, _⟩ => ⟨S4x4096, .f32⟩
  | .hbm, ⟨20, _⟩ => ⟨S32x2x256, .f32⟩
  | .hbm, ⟨21, _⟩ => ⟨S32x256x2, .f32⟩
  | .hbm, ⟨22, _⟩ => ⟨S32x256x2x64, .f32⟩
  | .hbm, ⟨23, _⟩ => ⟨S32x256x128, .f32⟩
  | .hbm, ⟨24, _⟩ => ⟨S8192x128, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S128, .f32⟩
  | .hbm, ⟨47, _⟩ => ⟨S128, .f32⟩
  | .hbm, ⟨48, _⟩ => ⟨S1x128, .f32⟩
  | .hbm, ⟨49, _⟩ => ⟨S1x128, .f32⟩
  | .hbm, ⟨50, _⟩ => ⟨S2x128, .f32⟩
  | .hbm, ⟨51, _⟩ => ⟨S16384x7680, .bf16⟩
  | .hbm, ⟨52, _⟩ => ⟨S2048x512, .f32⟩
  | .local _ .vmem, ⟨0, _⟩ => ⟨S512x1024, .f32⟩
  | .local _ .vmem, ⟨1, _⟩ => ⟨S512x1024, .f32⟩
  | .local _ .vmem, ⟨2, _⟩ => ⟨S1024x7296, .bf16⟩
  | .local _ .vmem, ⟨3, _⟩ => ⟨S128x512, .bf16⟩
  | .local _ .vmem, ⟨4, _⟩ => ⟨S1x512, .f32⟩
  | .local _ .vmem, ⟨5, _⟩ => ⟨S256x128, .f32⟩
  | .local _ .vmem, ⟨6, _⟩ => ⟨S256x128, .f32⟩
  | .local _ .vmem, ⟨7, _⟩ => ⟨S2x128, .f32⟩
  | .local _ .vmem, ⟨8, _⟩ => ⟨S512x7680, .bf16⟩
  | .local _ .vmem, ⟨9, _⟩ => ⟨S512x7680, .bf16⟩
  | .local _ .vmem, ⟨10, _⟩ => ⟨S64x512, .f32⟩
  | .local _ .vmem, ⟨11, _⟩ => ⟨S64x512, .f32⟩
  | .local _ .vmem, ⟨12, _⟩ => ⟨S512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35_0 : Ref sig .tc := ⟨.hbm, 51, rfl⟩
abbrev main_v35_1 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x7296 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x7680 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel2Ideal.lean ====
variable {F : FTy → Type} [FloatOps F] [Named F]
def κ : String → Option EReal := fun
  | "head_scale" => some (((Real.sqrt 128)⁻¹ : ℝ) : EReal)
  | "query_scale" => some (((Real.sqrt 128)⁻¹ * (Real.log 2)⁻¹ : ℝ) : EReal)
  | _ => none
-- ==== Reference2Ideal.lean ====
abbrev S4x4096x1024 : Shape := ⟨3, ![4, 4096, 1024]⟩
abbrev S4x4096 : Shape := ⟨2, ![4, 4096]⟩
abbrev S1024x7184 : Shape := ⟨2, ![1024, 7184]⟩
abbrev S16x512 : Shape := ⟨2, ![16, 512]⟩
abbrev S512 : Shape := ⟨1, ![512]⟩
abbrev S64 : Shape := ⟨1, ![64]⟩
abbrev S_ : Shape := ⟨0, ![]⟩
abbrev S4x4096x1 : Shape := ⟨3, ![4, 4096, 1]⟩
abbrev S1x1x64 : Shape := ⟨3, ![1, 1, 64]⟩
abbrev S4x4096x64 : Shape := ⟨3, ![4, 4096, 64]⟩
abbrev S4x4096x1x64 : Shape := ⟨4, ![4, 4096, 1, 64]⟩
abbrev S4x4096x7184 : Shape := ⟨3, ![4, 4096, 7184]⟩
abbrev S4x4096x512 : Shape := ⟨3, ![4, 4096, 512]⟩
abbrev S4x4096x16 : Shape := ⟨3, ![4, 4096, 16]⟩
abbrev S4x4096x1536 : Shape := ⟨3, ![4, 4096, 1536]⟩
abbrev S1x1x512 : Shape := ⟨3, ![1, 1, 512]⟩
abbrev S4x64x64x512 : Shape := ⟨4, ![4, 64, 64, 512]⟩
abbrev S4x64x1x512 : Shape := ⟨4, ![4, 64, 1, 512]⟩
abbrev S16384x512 : Shape := ⟨2, ![16384, 512]⟩
abbrev S16384x1024 : Shape := ⟨2, ![16384, 1024]⟩
abbrev S4x4096x12x128 : Shape := ⟨4, ![4, 4096, 12, 128]⟩
abbrev S4x4096x12x64 : Shape := ⟨4, ![4, 4096, 12, 64]⟩
abbrev S16384x1536 : Shape := ⟨2, ![16384, 1536]⟩
abbrev S4x4096x4x128 : Shape := ⟨4, ![4, 4096, 4, 128]⟩
abbrev S4x4096x4x64 : Shape := ⟨4, ![4, 4096, 4, 64]⟩
abbrev S16384x7680 : Shape := ⟨2, ![16384, 7680]⟩
abbrev S256x512 : Shape := ⟨2, ![256, 512]⟩
abbrev S256x8x512 : Shape := ⟨3, ![256, 8, 512]⟩
abbrev S2048x512 : Shape := ⟨2, ![2048, 512]⟩

abbrev nBuf : Space → Nat
  | .hbm => 170
  | .vmem => 0
  | .smem => 0
  | _ => 0

abbrev hbmTy0_0 (i : Nat) : BufTy := match i % 128 with
  | 0 => ⟨S4x4096x1024, .f32⟩
  | 1 => ⟨S4x4096, .i32⟩
  | 2 => ⟨S1024x7184, .f32⟩
  | 3 => ⟨S16x512, .f32⟩
  | 4 => ⟨S512, .f32⟩
  | 5 => ⟨S64, .f32⟩
  | 6 => ⟨S_, .f32⟩
  | 7 => ⟨S64, .f32⟩
  | 8 => ⟨S64, .f32⟩
  | 9 => ⟨S_, .f32⟩
  | 10 => ⟨S64, .f32⟩
  | 11 => ⟨S64, .f32⟩
  | 12 => ⟨S_, .f32⟩
  | 13 => ⟨S64, .f32⟩
  | 14 => ⟨S64, .f32⟩
  | 15 => ⟨S_, .f32⟩
  | 16 => ⟨S64, .f32⟩
  | 17 => ⟨S64, .f32⟩
  | 18 => ⟨S_, .f32⟩
  | 19 => ⟨S64, .f32⟩
  | 20 => ⟨S64, .f32⟩
  | 21 => ⟨S4x4096, .f32⟩
  | 22 => ⟨S4x4096x1, .f32⟩
  | 23 => ⟨S1x1x64, .f32⟩
  | 24 => ⟨S4x4096x64, .f32⟩
  | 25 => ⟨S4x4096x64, .f32⟩
  | 26 => ⟨S4x4096x64, .f32⟩
  | 27 => ⟨S4x4096x64, .f32⟩
  | 28 => ⟨S4x4096x1x64, .f32⟩
  | 29 => ⟨S4x4096x64, .f32⟩
  | 30 => ⟨S4x4096x1x64, .f32⟩
  | 31 => ⟨S4x4096x7184, .f32⟩
  | 32 => ⟨S4x4096x512, .f32⟩
  | 33 => ⟨S4x4096x512, .f32⟩
  | 34 => ⟨S4x4096x1024, .f32⟩
  | 35 => ⟨S4x4096x1024, .f32⟩
  | 36 => ⟨S4x4096x16, .f32⟩
  | 37 => ⟨S4x4096x1536, .f32⟩
  | 38 => ⟨S4x4096x512, .f32⟩
  | 39 => ⟨S4x4096x512, .f32⟩
  | 40 => ⟨S4x4096x512, .f32⟩
  | 41 => ⟨S4x4096x512, .f32⟩
  | 42 => ⟨S4x4096x512, .f32⟩
  | 43 => ⟨S4x4096x512, .f32⟩
  | 44 => ⟨S1x1x512, .f32⟩
  | 45 => ⟨S4x4096x512, .f32⟩
  | 46 => ⟨S4x4096x512, .f32⟩
  | 47 => ⟨S4x4096x512, .f32⟩
  | 48 => ⟨S_, .f32⟩
  | 49 => ⟨S4x4096x512, .f32⟩
  | 50 => ⟨S4x4096x512, .f32⟩
  | 51 => ⟨S4x4096x512, .f32⟩
  | 52 => ⟨S4x4096x512, .f32⟩
  | 53 => ⟨S4x4096x512, .i1⟩
  | 54 => ⟨S4x4096x512, .f32⟩
  | 55 => ⟨S4x4096x512, .f32⟩
  | 56 => ⟨S4x4096x512, .f32⟩
  | 57 => ⟨S4x4096x512, .f32⟩
  | 58 => ⟨S4x4096x512, .f32⟩
  | 59 => ⟨S4x4096x512, .f32⟩
  | 60 => ⟨S4x4096x512, .f32⟩
  | 61 => ⟨S4x4096x512, .f32⟩
  | 62 => ⟨S4x4096x512, .f32⟩
  | 63 => ⟨S_, .f32⟩
  | 64 => ⟨S4x4096x512, .f32⟩
  | 65 => ⟨S4x4096x512, .f32⟩
  | 66 => ⟨S4x64x64x512, .f32⟩
  | 67 => ⟨S_, .f32⟩
  | 68 => ⟨S_, .f32⟩
  | 69 => ⟨S4x64x64x512, .f32⟩
  | 70 => ⟨S4x64x1x512, .f32⟩
  | 71 => ⟨S4x64x64x512, .f32⟩
  | 72 => ⟨S_, .f32⟩
  | 73 => ⟨S_, .f32⟩
  | 74 => ⟨S4x64x64x512, .f32⟩
  | 75 => ⟨S4x64x64x512, .f32⟩
  | 76 => ⟨S4x64x64x512, .f32⟩
  | 77 => ⟨S4x64x64x512, .f32⟩
  | 78 => ⟨S4x64x64x512, .f32⟩
  | 79 => ⟨S4x64x64x512, .f32⟩
  | 80 => ⟨S4x64x64x512, .f32⟩
  | 81 => ⟨S4x64x64x512, .f32⟩
  | 82 => ⟨S4x64x64x512, .f32⟩
  | 83 => ⟨S4x64x64x512, .f32⟩
  | 84 => ⟨S4x64x64x512, .f32⟩
  | 85 => ⟨S4x64x64x512, .f32⟩
  | 86 => ⟨S4x64x64x512, .f32⟩
  | 87 => ⟨S_, .f32⟩
  | 88 => ⟨S_, .f32⟩
  | 89 => ⟨S_, .f32⟩
  | 90 => ⟨S_, .f32⟩
  | 91 => ⟨S_, .f32⟩
  | 92 => ⟨S16384x512, .f32⟩
  | 93 => ⟨S16384x512, .f32⟩
  | 94 => ⟨S16384x1024, .f32⟩
  | 95 => ⟨S4x4096x1024, .f32⟩
  | 96 => ⟨S4x4096x1024, .f32⟩
  | 97 => ⟨S_, .f32⟩
  | 98 => ⟨S4x4096x1024, .f32⟩
  | 99 => ⟨S4x4096x1024, .f32⟩
  | 100 => ⟨S_, .f32⟩
  | 101 => ⟨S4x4096x1024, .f32⟩
  | 102 => ⟨S4x4096x1024, .f32⟩
  | 103 => ⟨S4x4096x1024, .f32⟩
  | 104 => ⟨S16384x1024, .f32⟩
  | 105 => ⟨S16384x512, .f32⟩
  | 106 => ⟨S4x4096x12x128, .f32⟩
  | 107 => ⟨S4x4096x12x64, .f32⟩
  | 108 => ⟨S4x4096x12x64, .f32⟩
  | 109 => ⟨S4x4096x12x64, .f32⟩
  | 110 => ⟨S4x4096x12x64, .f32⟩
  | 111 => ⟨S4x4096x12x64, .f32⟩
  | 112 => ⟨S4x4096x12x64, .f32⟩
  | 113 => ⟨S4x4096x12x64, .f32⟩
  | 114 => ⟨S4x4096x12x64, .f32⟩
  | 115 => ⟨S4x4096x12x64, .f32⟩
  | 116 => ⟨S4x4096x12x64, .f32⟩
  | 117 => ⟨S4x4096x12x64, .f32⟩
  | 118 => ⟨S4x4096x12x64, .f32⟩
  | 119 => ⟨S4x4096x12x128, .f32⟩
  | 120 => ⟨S4x4096x1536, .f32⟩
  | 121 => ⟨S16384x1536, .f32⟩
  | 122 => ⟨S16384x1536, .f32⟩
  | 123 => ⟨S16384x1536, .f32⟩
  | 124 => ⟨S4x4096x4x128, .f32⟩
  | 125 => ⟨S4x4096x4x64, .f32⟩
  | 126 => ⟨S4x4096x4x64, .f32⟩
  | 127 => ⟨S4x4096x4x64, .f32⟩
  | _ => ⟨S4x4096x1024, .f32⟩

abbrev hbmTy0_1 (i : Nat) : BufTy := match i % 128 with
  | 0 => ⟨S4x4096x4x64, .f32⟩
  | 1 => ⟨S4x4096x4x64, .f32⟩
  | 2 => ⟨S4x4096x4x64, .f32⟩
  | 3 => ⟨S4x4096x4x64, .f32⟩
  | 4 => ⟨S4x4096x4x64, .f32⟩
  | 5 => ⟨S4x4096x4x64, .f32⟩
  | 6 => ⟨S4x4096x4x64, .f32⟩
  | 7 => ⟨S4x4096x4x64, .f32⟩
  | 8 => ⟨S4x4096x4x64, .f32⟩
  | 9 => ⟨S4x4096x4x128, .f32⟩
  | 10 => ⟨S4x4096x512, .f32⟩
  | 11 => ⟨S16384x512, .f32⟩
  | 12 => ⟨S16384x512, .f32⟩
  | 13 => ⟨S4x4096x512, .f32⟩
  | 14 => ⟨S4x4096x512, .f32⟩
  | 15 => ⟨S_, .f32⟩
  | 16 => ⟨S4x4096x512, .f32⟩
  | 17 => ⟨S4x4096x512, .f32⟩
  | 18 => ⟨S_, .f32⟩
  | 19 => ⟨S4x4096x512, .f32⟩
  | 20 => ⟨S4x4096x512, .f32⟩
  | 21 => ⟨S4x4096x512, .f32⟩
  | 22 => ⟨S16384x512, .f32⟩
  | 23 => ⟨S16384x512, .f32⟩
  | 24 => ⟨S16384x512, .f32⟩
  | 25 => ⟨S16384x512, .f32⟩
  | 26 => ⟨S4x4096x512, .f32⟩
  | 27 => ⟨S4x4096x512, .f32⟩
  | 28 => ⟨S_, .f32⟩
  | 29 => ⟨S4x4096x512, .f32⟩
  | 30 => ⟨S4x4096x512, .f32⟩
  | 31 => ⟨S_, .f32⟩
  | 32 => ⟨S4x4096x512, .f32⟩
  | 33 => ⟨S4x4096x512, .f32⟩
  | 34 => ⟨S4x4096x512, .f32⟩
  | 35 => ⟨S16384x512, .f32⟩
  | 36 => ⟨S16384x7680, .f32⟩
  | 37 => ⟨S16384x7680, .bf16⟩
  | 38 => ⟨S4x64x1x512, .f32⟩
  | 39 => ⟨S256x512, .f32⟩
  | 40 => ⟨S256x8x512, .f32⟩
  | 41 => ⟨S2048x512, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_call0_v0 : Ref sig .tc := ⟨.hbm, 47, rfl⟩
abbrev main_call0_call0_cst : Ref sig .tc := ⟨.hbm, 48, rfl⟩
abbrev main_call0_call0_v0 : Ref sig .tc := ⟨.hbm, 49, rfl⟩
abbrev main_call0_call0_v1 : Ref sig .tc := ⟨.hbm, 50, rfl⟩
abbrev main_call0_call0_v2 : Ref sig .tc := ⟨.hbm, 51, rfl⟩
abbrev main_call0_call0_v3 : Ref sig .tc := ⟨.hbm, 52, rfl⟩
abbrev main_call0_call0_v4 : Ref sig .tc := ⟨.hbm, 53, rfl⟩
abbrev main_call0_call0_v5 : Ref sig .tc := ⟨.hbm, 54, rfl⟩
abbrev main_call0_call0_v6 : Ref sig .tc := ⟨.hbm, 55, rfl⟩
abbrev main_call0_call0_v7 : Ref sig .tc := ⟨.hbm, 56, rfl⟩
abbrev main_call0_call0_v8 : Ref sig .tc := ⟨.hbm, 57, rfl⟩
abbrev main_call0_call0_v9 : Ref sig .tc := ⟨.hbm, 58, rfl⟩
abbrev main_call0_call0_v10 : Ref sig .tc := ⟨.hbm, 59, rfl⟩
abbrev main_call0_call0_v11 : Ref sig .tc := ⟨.hbm, 60, rfl⟩
abbrev main_call0_v1 : Ref sig .tc := ⟨.hbm, 61, rfl⟩
abbrev main_v37 : Ref sig .tc := ⟨.hbm, 62, rfl⟩
abbrev main_cst_4 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_call1_call0_cst : Ref sig .tc := ⟨.hbm, 67, rfl⟩
abbrev main_call1_call0_v0 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_5 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_6 : Ref sig .tc := ⟨.hbm, 87, rfl⟩
abbrev main_v58 : Ref sig .tc := ⟨.hbm, 88, rfl⟩
abbrev main_cst_7 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_call2_v0 : Ref sig .tc := ⟨.hbm, 95, rfl⟩
abbrev main_call2_v1 : Ref sig .tc := ⟨.hbm, 96, rfl⟩
abbrev main_call2_cst : Ref sig .tc := ⟨.hbm, 97, rfl⟩
abbrev main_call2_v2 : Ref sig .tc := ⟨.hbm, 98, rfl⟩
abbrev main_call2_v3 : Ref sig .tc := ⟨.hbm, 99, rfl⟩
abbrev main_call2_cst_0 : Ref sig .tc := ⟨.hbm, 100, rfl⟩
abbrev main_call2_v4 : Ref sig .tc := ⟨.hbm, 101, rfl⟩
abbrev main_call2_v5 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_call3_v0 : Ref sig .tc := ⟨.hbm, 141, rfl⟩
abbrev main_call3_v1 : Ref sig .tc := ⟨.hbm, 142, rfl⟩
abbrev main_call3_cst : Ref sig .tc := ⟨.hbm, 143, rfl⟩
abbrev main_call3_v2 : Ref sig .tc := ⟨.hbm, 144, rfl⟩
abbrev main_call3_v3 : Ref sig .tc := ⟨.hbm, 145, rfl⟩
abbrev main_call3_cst_0 : Ref sig .tc := ⟨.hbm, 146, rfl⟩
abbrev main_call3_v4 : Ref sig .tc := ⟨.hbm, 147, rfl⟩
abbrev main_call3_v5 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_call4_v0 : Ref sig .tc := ⟨.hbm, 154, rfl⟩
abbrev main_call4_v1 : Ref sig .tc := ⟨.hbm, 155, rfl⟩
abbrev main_call4_cst : Ref sig .tc := ⟨.hbm, 156, rfl⟩
abbrev main_call4_v2 : Ref sig .tc := ⟨.hbm, 157, rfl⟩
abbrev main_call4_v3 : Ref sig .tc := ⟨.hbm, 158, rfl⟩
abbrev main_call4_cst_0 : Ref sig .tc := ⟨.hbm, 159, rfl⟩
abbrev main_call4_v4 : Ref sig .tc := ⟨.hbm, 160, rfl⟩
abbrev main_call4_v5 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096x512 : Shape := ⟨3, ![4, 4096, 512]⟩
abbrev S4x256x1024 : Shape := ⟨3, ![4, 256, 1024]⟩
abbrev S1024x512 : Shape := ⟨2, ![1024, 512]⟩
abbrev S2048x1024 : Shape := ⟨2, ![2048, 1024]⟩
abbrev S1024 : Shape := ⟨1, ![1024]⟩
abbrev S_ : Shape := ⟨0, ![]⟩
abbrev S16384x6656 : Shape := ⟨2, ![16384, 6656]⟩
abbrev S16384x512 : Shape := ⟨2, ![16384, 512]⟩
abbrev S16384x7680 : Shape := ⟨2, ![16384, 7680]⟩
abbrev S16384x1024 : Shape := ⟨2, ![16384, 1024]⟩
abbrev S1x1024 : Shape := ⟨2, ![1, 1024]⟩
abbrev S1024x1024 : Shape := ⟨2, ![1024, 1024]⟩
abbrev S1x256x1024 : Shape := ⟨3, ![1, 256, 1024]⟩
abbrev S256x512 : Shape := ⟨2, ![256, 512]⟩
abbrev S256x1024 : Shape := ⟨2, ![256, 1024]⟩
abbrev S1024x128 : Shape := ⟨2, ![1024, 128]⟩
abbrev S256x128 : Shape := ⟨2, ![256, 128]⟩
abbrev S1024x256 : Shape := ⟨2, ![1024, 256]⟩
abbrev S1024x1 : Shape := ⟨2, ![1024, 1]⟩
abbrev S128x1024 : Shape := ⟨2, ![128, 1024]⟩
abbrev S128x512 : Shape := ⟨2, ![128, 512]⟩
abbrev S512x1024 : Shape := ⟨2, ![512, 1024]⟩
abbrev S128 : Shape := ⟨1, ![128]⟩
abbrev S128x1 : Shape := ⟨2, ![128, 1]⟩

abbrev nBuf : Space → Nat
  | .hbm => 38
  | .vmem => 23
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S4x4096x512, .f32⟩
  | .hbm, ⟨4, _⟩ => ⟨S4x256x1024, .f32⟩
  | .hbm, ⟨5, _⟩ => ⟨S1024x512, .f32⟩
  | .hbm, ⟨6, _⟩ => ⟨S1024x512, .f32⟩
  | .hbm, ⟨7, _⟩ => ⟨S2048x1024, .f32⟩
  | .hbm, ⟨8, _⟩ => ⟨S4x4096x1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S16384x6656, .f32⟩
  | .hbm, ⟨13, _⟩ => ⟨S16384x512, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S_, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x7680, .f32⟩
  | .hbm, ⟨29, _⟩ => ⟨S16384x7680, .bf16⟩
  | .hbm, ⟨30, _⟩ => ⟨S16384x1024, .f32⟩
  | .hbm, ⟨31, _⟩ => ⟨S16384x1024, .bf16⟩
  | .hbm, ⟨32, _⟩ => ⟨S16384x512, .f32⟩
  | .hbm, ⟨33, _⟩ => ⟨S16384x512, .bf16⟩
  | .hbm, ⟨34, _⟩ => ⟨S16384x1024, .f32⟩
  | .hbm, ⟨35, _⟩ => ⟨S1x1024, .f32⟩
  | .hbm, ⟨36, _⟩ => ⟨S1x1024, .f32⟩
  | .hbm, ⟨37, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1x256x1024, .f32⟩
  | .local _ .vmem, ⟨9, _⟩ => ⟨S1x256x1024, .f32⟩
  | .local _ .vmem, ⟨10, _⟩ => ⟨S1024x512, .f32⟩
  | .local _ .vmem, ⟨11, _⟩ => ⟨S1024x512, .f32⟩
  | .local _ .vmem, ⟨12, _⟩ => ⟨S2048x1024, .f32⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | .local _ .vmem, ⟨19, _⟩ => ⟨S2048x1024, .bf16⟩
  | .local _ .vmem, ⟨20, _⟩ => ⟨S256x512, .bf16⟩
  | .local _ .vmem, ⟨21, _⟩ => ⟨S256x512, .bf16⟩
  | .local _ .vmem, ⟨22, _⟩ => ⟨S1024x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_cst_1 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_3 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S4x4096x1024 : Shape := ⟨3, ![4, 4096, 1024]⟩
abbrev S4x4096x512 : Shape := ⟨3, ![4, 4096, 512]⟩
abbrev S4x256x1024 : Shape := ⟨3, ![4, 256, 1024]⟩
abbrev S1024x512 : Shape := ⟨2, ![1024, 512]⟩
abbrev S2048x1024 : Shape := ⟨2, ![2048, 1024]⟩
abbrev S1024 : Shape := ⟨1, ![1024]⟩
abbrev S4x4096x1536 : Shape := ⟨3, ![4, 4096, 1536]⟩
abbrev S4x4096x4x128 : Shape := ⟨4, ![4, 4096, 4, 128]⟩
abbrev S4x256x512 : Shape := ⟨3, ![4, 256, 512]⟩
abbrev S4x256x4x128 : Shape := ⟨4, ![4, 256, 4, 128]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩
abbrev S4x4096x2048 : Shape := ⟨3, ![4, 4096, 2048]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 85
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S4x4096x512, .f32⟩
  | .hbm, ⟨4, _⟩ => ⟨S4x256x1024, .f32⟩
  | .hbm, ⟨5, _⟩ => ⟨S1024x512, .f32⟩
  | .hbm, ⟨6, _⟩ => ⟨S1024x512, .f32⟩
  | .hbm, ⟨7, _⟩ => ⟨S2048x1024, .f32⟩
  | .hbm, ⟨8, _⟩ => ⟨S4x4096x1024, .f32⟩
  | .hbm, ⟨9, _⟩ => ⟨S1024, .f32⟩
  | .hbm, ⟨10, _⟩ => ⟨S1024, .f32⟩
  | .hbm, ⟨11, _⟩ => ⟨S4x4096x1536, .f32⟩
  | .hbm, ⟨12, _⟩ => ⟨S4x4096x4x128, .f32⟩
  | .hbm, ⟨13, _⟩ => ⟨S4x256x512, .f32⟩
  | .hbm, ⟨14, _⟩ => ⟨S4x256x4x128, .f32⟩
  | .hbm, ⟨15, _⟩ => ⟨S4x256x512, .f32⟩
  | .hbm, ⟨16, _⟩ => ⟨S4x256x4x128, .f32⟩
  | .hbm, ⟨17, _⟩ => ⟨S4x4x4096x256, .f32⟩
  | .hbm, ⟨18, _⟩ => ⟨S_, .f32⟩
  | .hbm, ⟨19, _⟩ => ⟨S_, .f32⟩
  | .hbm, ⟨20, _⟩ => ⟨S4x4x4096x256, .f32⟩
  | .hbm, ⟨21, _⟩ => ⟨S4x4x4096x256, .f32⟩
  | .hbm, ⟨22, _⟩ => ⟨S_, .f32⟩
  | .hbm, ⟨23, _⟩ => ⟨S4x4x4096, .f32⟩
  | .hbm, ⟨24, _⟩ => ⟨S_, .f32⟩
  | .hbm, ⟨25, _⟩ => ⟨S4x4x4096, .f32⟩
  | .hbm, ⟨26, _⟩ => ⟨S4x4x4096, .f32⟩
  | .hbm, ⟨27, _⟩ => ⟨S4x4x4096x1, .f32⟩
  | .hbm, ⟨28, _⟩ => ⟨S4x4x4096x256, .f32⟩
  | .hbm, ⟨29, _⟩ => ⟨S4x4x4096x256, .f32⟩
  | .hbm, ⟨30, _⟩ => ⟨S4x4x4096x256, .f32⟩
  | .hbm, ⟨31, _⟩ => ⟨S_, .f32⟩
  | .hbm, ⟨32, _⟩ => ⟨S4x4x4096, .f32⟩
  | .hbm, ⟨33, _⟩ => ⟨S4x4x4096x1, .f32⟩
  | .hbm, ⟨34, _⟩ => ⟨S4x4x4096x256, .f32⟩
  | .hbm, ⟨35, _⟩ => ⟨S4x4x4096x256, .f32⟩
  | .hbm, ⟨36, _⟩ => ⟨S4x4x128x4096, .f32⟩
  | .hbm, ⟨37, _⟩ => ⟨S4x4096x4x128, .f32⟩
  | .hbm, ⟨38, _⟩ => ⟨S4x4096x512, .f32⟩
  | .hbm, ⟨39, _⟩ => ⟨S4x4096x512, .f32⟩
  | .hbm, ⟨40, _⟩ => ⟨S4x4096x512, .f32⟩
  | .hbm, ⟨41, _⟩ => ⟨S_, .f32⟩
  | .hbm, ⟨42, _⟩ => ⟨S4x4096x512, .f32⟩
  | .hbm, ⟨43, _⟩ => ⟨S4x4096x512, .f32⟩
  | .hbm, ⟨44, _⟩ => ⟨S_, .f32⟩
  | .hbm, ⟨45, _⟩ => ⟨S4x4096x512, .f32⟩
  | .hbm, ⟨46, _⟩ => ⟨S4x4096x512, .f32⟩
  | .hbm, ⟨47, _⟩ => ⟨S4x4096x512, .f32⟩
  | .hbm, ⟨48, _⟩ => ⟨S4x4096x512, .f32⟩
  | .hbm, ⟨49, _⟩ => ⟨S4x4096x2048, .f32⟩
  | .hbm, ⟨50, _⟩ => ⟨S4x4096x1024, .f32⟩
  | .hbm, ⟨51, _⟩ => ⟨S_, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S_, .f32⟩
  | .hbm, ⟨56, _⟩ => ⟨S4x4096, .f32⟩
  | .hbm, ⟨57, _⟩ => ⟨S4x4096x1, .f32⟩
  | .hbm, ⟨58, _⟩ => ⟨S_, .f32⟩
  | .hbm, ⟨59, _⟩ => ⟨S4x4096x1, .f32⟩
  | .hbm, ⟨60, _⟩ => ⟨S4x4096x1, .f32⟩
  | .hbm, ⟨61, _⟩ => ⟨S4x4096x1024, .f32⟩
  | .hbm, ⟨62, _⟩ => ⟨S4x4096x1024, .f32⟩
  | .hbm, ⟨63, _⟩ => ⟨S4x4096x1024, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S_, .f32⟩
  | .hbm, ⟨68, _⟩ => ⟨S4x4096x1, .f32⟩
  | .hbm, ⟨69, _⟩ => ⟨S4x4096x1, .f32⟩
  | .hbm, ⟨70, _⟩ => ⟨S4x4096x1024, .f32⟩
  | .hbm, ⟨71, _⟩ => ⟨S4x4096x1024, .f32⟩
  | .hbm, ⟨72, _⟩ => ⟨S_, .f32⟩
  | .hbm, ⟨73, _⟩ => ⟨S4x4096x1, .f32⟩
  | .hbm, ⟨74, _⟩ => ⟨S4x4096x1, .f32⟩
  | .hbm, ⟨75, _⟩ => ⟨S4x4096x1, .f32⟩
  | .hbm, ⟨76, _⟩ => ⟨S4x4096x1024, .f32⟩
  | .hbm, ⟨77, _⟩ => ⟨S4x4096x1024, .f32⟩
  | .hbm, ⟨78, _⟩ => ⟨S1x1x1024, .f32⟩
  | .hbm, ⟨79, _⟩ => ⟨S4x4096x1024, .f32⟩
  | .hbm, ⟨80, _⟩ => ⟨S4x4096x1024, .f32⟩
  | .hbm, ⟨81, _⟩ => ⟨S1x1x1024, .f32⟩
  | .hbm, ⟨82, _⟩ => ⟨S4x4096x1024, .f32⟩
  | .hbm, ⟨83, _⟩ => ⟨S4x4096x1024, .f32⟩
  | .hbm, ⟨84, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩

abbrev nD : Nat := 1
abbrev τ : Topo := Topo.v7x

variable {F : FTy → Type} [FloatOps F]
-- ==== Proof.Block.lean ====
module

public import proofs.«01_k».proof.Proof.Gen.KernelIdeal.Value
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Own

open Cert.KernelIdeal Cert.KernelIdeal.Gen Cert.KernelIdeal.Value

variable {F : FTy → Type} [FloatOps F]

/-- One head of the memory attention: the exponentials of the scores against the keys, their product with the values, divided by their sum and gated. -/
def head (q : Vec F S1024x128 .bf16) (k v : Vec F S256x128 .bf16) (g : Vec F S1024x128 .bf16) : FVec F S1024x128 .bf16 :=
  k0_pay20 (k0_pay14 (k0_pay6 q k) v) (k0_pay18 (k0_pay6 q k)) g

/-- The residual of 128 rows: the scaled input plus the mixer's rows and the attention's rows against their parts of the out-projection. -/
def resid (x : Vec F S128x1024 .f32) (a : Vec F S128x1536 .bf16) (wa : Vec F S1536x1024 .bf16) (o : Vec F S128x512 .bf16) (wo : Vec F S512x1024 .bf16) : FVec F S128x1024 .f32 :=
  k0_pay25 x a wa o wo

/-- The layer normalisation of 128 rows. -/
def norm (y : FVec F S128x1024 .f32) (lw lb : Vec F S1x1024 .f32) : FVec F S128x1024 .f32 :=
  k0_pay37 (k0_pay36 y lw) lb

/-- The four heads side by side. -/
def heads (a1 a2 : Vec F S1024x512 .bf16) (k v : Vec F S256x512 .bf16) : Vec F S1024x512 .bf16 :=
  View.canon [
    ⟨Rect.unit ![0, 384] ![1024, 128] inb_S1024x512_S1024x128_0_384, head (View.ld a1 (Rect.unit ![0, 384] ![1024, 128] inb_S1024x512_S1024x128_0_384)) (View.ld k (Rect.unit ![0, 384] ![256, 128] inb_S256x512_S256x128_0_384))
      (View.ld v (Rect.unit ![0, 384] ![256, 128] inb_S256x512_S256x128_0_384)) (View.ld a2 (Rect.unit ![0, 384] ![1024, 128] inb_S1024x512_S1024x128_0_384))⟩,
    ⟨Rect.unit ![0, 256] ![1024, 128] inb_S1024x512_S1024x128_0_256, head (View.ld a1 (Rect.unit ![0, 256] ![1024, 128] inb_S1024x512_S1024x128_0_256)) (View.ld k (Rect.unit ![0, 256] ![256, 128] inb_S256x512_S256x128_0_256))
      (View.ld v (Rect.unit ![0, 256] ![256, 128] inb_S256x512_S256x128_0_256)) (View.ld a2 (Rect.unit ![0, 256] ![1024, 128] inb_S1024x512_S1024x128_0_256))⟩,
    ⟨Rect.unit ![0, 128] ![1024, 128] inb_S1024x512_S1024x128_0_128, head (View.ld a1 (Rect.unit ![0, 128] ![1024, 128] inb_S1024x512_S1024x128_0_128)) (View.ld k (Rect.unit ![0, 128] ![256, 128] inb_S256x512_S256x128_0_128))
      (View.ld v (Rect.unit ![0, 128] ![256, 128] inb_S256x512_S256x128_0_128)) (View.ld a2 (Rect.unit ![0, 128] ![1024, 128] inb_S1024x512_S1024x128_0_128))⟩,
    ⟨Rect.unit ![0, 0] ![1024, 128] inb_S1024x512_S1024x128_0_0, head (View.ld a1 (Rect.unit ![0, 0] ![1024, 128] inb_S1024x512_S1024x128_0_0)) (View.ld k (Rect.unit ![0, 0] ![256, 128] inb_S256x512_S256x128_0_0))
      (View.ld v (Rect.unit ![0, 0] ![256, 128] inb_S256x512_S256x128_0_0)) (View.ld a2 (Rect.unit ![0, 0] ![1024, 128] inb_S1024x512_S1024x128_0_0))⟩]

/-- The output block of one grid point, eight row tiles. -/
def block (a0 : Vec F S1024x1536 .bf16) (o : Vec F S1024x512 .bf16) (a7 : Vec F S1024x1024 .f32) (w : Vec F S2048x1024 .bf16) (lw lb : Vec F S1x1024 .f32) : Vec F S1024x1024 .f32 :=
  View.canon [
    ⟨Rect.unit ![896, 0] ![128, 1024] inb_S1024x1024_S128x1024_896_0, norm (resid (View.ld a7 (Rect.unit ![896, 0] ![128, 1024] inb_S1024x1024_S128x1024_896_0))
      (View.ld a0 (Rect.unit ![896, 0] ![128, 1536] inb_S1024x1536_S128x1536_896_0)) (View.ld w (Rect.unit ![0, 0] ![1536, 1024] inb_S2048x1024_S1536x1024_0_0))
      (View.ld o (Rect.unit ![896, 0] ![128, 512] inb_S1024x512_S128x512_896_0)) (View.ld w (Rect.unit ![1536, 0] ![512, 1024] inb_S2048x1024_S512x1024_1536_0))) lw lb⟩,
    ⟨Rect.unit ![768, 0] ![128, 1024] inb_S1024x1024_S128x1024_768_0, norm (resid (View.ld a7 (Rect.unit ![768, 0] ![128, 1024] inb_S1024x1024_S128x1024_768_0))
      (View.ld a0 (Rect.unit ![768, 0] ![128, 1536] inb_S1024x1536_S128x1536_768_0)) (View.ld w (Rect.unit ![0, 0] ![1536, 1024] inb_S2048x1024_S1536x1024_0_0))
      (View.ld o (Rect.unit ![768, 0] ![128, 512] inb_S1024x512_S128x512_768_0)) (View.ld w (Rect.unit ![1536, 0] ![512, 1024] inb_S2048x1024_S512x1024_1536_0))) lw lb⟩,
    ⟨Rect.unit ![640, 0] ![128, 1024] inb_S1024x1024_S128x1024_640_0, norm (resid (View.ld a7 (Rect.unit ![640, 0] ![128, 1024] inb_S1024x1024_S128x1024_640_0))
      (View.ld a0 (Rect.unit ![640, 0] ![128, 1536] inb_S1024x1536_S128x1536_640_0)) (View.ld w (Rect.unit ![0, 0] ![1536, 1024] inb_S2048x1024_S1536x1024_0_0))
      (View.ld o (Rect.unit ![640, 0] ![128, 512] inb_S1024x512_S128x512_640_0)) (View.ld w (Rect.unit ![1536, 0] ![512, 1024] inb_S2048x1024_S512x1024_1536_0))) lw lb⟩,
    ⟨Rect.unit ![512, 0] ![128, 1024] inb_S1024x1024_S128x1024_512_0, norm (resid (View.ld a7 (Rect.unit ![512, 0] ![128, 1024] inb_S1024x1024_S128x1024_512_0))
      (View.ld a0 (Rect.unit ![512, 0] ![128, 1536] inb_S1024x1536_S128x1536_512_0)) (View.ld w (Rect.unit ![0, 0] ![1536, 1024] inb_S2048x1024_S1536x1024_0_0))
      (View.ld o (Rect.unit ![512, 0] ![128, 512] inb_S1024x512_S128x512_512_0)) (View.ld w (Rect.unit ![1536, 0] ![512, 1024] inb_S2048x1024_S512x1024_1536_0))) lw lb⟩,
    ⟨Rect.unit ![384, 0] ![128, 1024] inb_S1024x1024_S128x1024_384_0, norm (resid (View.ld a7 (Rect.unit ![384, 0] ![128, 1024] inb_S1024x1024_S128x1024_384_0))
      (View.ld a0 (Rect.unit ![384, 0] ![128, 1536] inb_S1024x1536_S128x1536_384_0)) (View.ld w (Rect.unit ![0, 0] ![1536, 1024] inb_S2048x1024_S1536x1024_0_0))
      (View.ld o (Rect.unit ![384, 0] ![128, 512] inb_S1024x512_S128x512_384_0)) (View.ld w (Rect.unit ![1536, 0] ![512, 1024] inb_S2048x1024_S512x1024_1536_0))) lw lb⟩,
    ⟨Rect.unit ![256, 0] ![128, 1024] inb_S1024x1024_S128x1024_256_0, norm (resid (View.ld a7 (Rect.unit ![256, 0] ![128, 1024] inb_S1024x1024_S128x1024_256_0))
      (View.ld a0 (Rect.unit ![256, 0] ![128, 1536] inb_S1024x1536_S128x1536_256_0)) (View.ld w (Rect.unit ![0, 0] ![1536, 1024] inb_S2048x1024_S1536x1024_0_0))
      (View.ld o (Rect.unit ![256, 0] ![128, 512] inb_S1024x512_S128x512_256_0)) (View.ld w (Rect.unit ![1536, 0] ![512, 1024] inb_S2048x1024_S512x1024_1536_0))) lw lb⟩,
    ⟨Rect.unit ![128, 0] ![128, 1024] inb_S1024x1024_S128x1024_128_0, norm (resid (View.ld a7 (Rect.unit ![128, 0] ![128, 1024] inb_S1024x1024_S128x1024_128_0))
      (View.ld a0 (Rect.unit ![128, 0] ![128, 1536] inb_S1024x1536_S128x1536_128_0)) (View.ld w (Rect.unit ![0, 0] ![1536, 1024] inb_S2048x1024_S1536x1024_0_0))
      (View.ld o (Rect.unit ![128, 0] ![128, 512] inb_S1024x512_S128x512_128_0)) (View.ld w (Rect.unit ![1536, 0] ![512, 1024] inb_S2048x1024_S512x1024_1536_0))) lw lb⟩,
    ⟨Rect.unit ![0, 0] ![128, 1024] inb_S1024x1024_S128x1024_0_0, norm (resid (View.ld a7 (Rect.unit ![0, 0] ![128, 1024] inb_S1024x1024_S128x1024_0_0))
      (View.ld a0 (Rect.unit ![0, 0] ![128, 1536] inb_S1024x1536_S128x1536_0_0)) (View.ld w (Rect.unit ![0, 0] ![1536, 1024] inb_S2048x1024_S1536x1024_0_0))
      (View.ld o (Rect.unit ![0, 0] ![128, 512] inb_S1024x512_S128x512_0_0)) (View.ld w (Rect.unit ![1536, 0] ![512, 1024] inb_S2048x1024_S512x1024_1536_0))) lw lb⟩]

theorem readCov_ld {s : Shape} {e : EltTy} [∀ e, Nonempty (Elt F e)] {κ : Kind} {sp : Space} (v : View sig κ sp s e) (L : List (View.Piece (Elt F) s e)) (r : Rect s) :
    v.readCov L r.toLoadRect = View.ld (View.canon L) r :=
  View.readCov_eq_canon' v L _

theorem hz2 : (![0, 0] : Fin 2 → ℕ) = fun _ => 0 := by decide

theorem canon_w (X : Vec F S2048x1024 .bf16) :
    View.canon [(⟨Rect.unit ![0, 0] ![2048, 1024] inb_S2048x1024_S2048x1024_0_0, X⟩ : View.Piece (Elt F) S2048x1024 .bf16)] = X :=
  View.canon_unit_zero hz2 _ X

theorem canon_k (X : Vec F S256x512 .bf16) :
    View.canon [(⟨Rect.unit ![0, 0] ![256, 512] inb_S256x512_S256x512_0_0, X⟩ : View.Piece (Elt F) S256x512 .bf16)] = X :=
  View.canon_unit_zero hz2 _ X

variable (m : (ℓ : Loc nD τ sig) → Buf (Elt F) ℓ) (ρ : Dev nD → PrngReg)

/-- What a grid point whose batch begins, at the grid's first point, leaves. -/
theorem stA (c : Dev nD) (t : Fin cfg0.N) (acc) (h0 : t.val % 16 = 0) (h1 : t.val % 4 = 0) :
    stAt0 m c t.val t.isLt acc
      = (block (iblk m c 0 t) (heads (iblk m c 1 t) (iblk m c 2 t) (k0_pay4 (iblk m c 3 t) (iblk m c 4 t)) (k0_pay5 (iblk m c 3 t) (iblk m c 5 t)))
          (iblk m c 7 t) (k0_pay2 (iblk m c 6 t)) (iblk m c 8 t) (iblk m c 9 t),
        k0_pay2 (iblk m c 6 t), k0_pay4 (iblk m c 3 t) (iblk m c 4 t), k0_pay5 (iblk m c 3 t) (iblk m c 5 t)) := by
  rw [stAt0_A m c t acc h0 h1]
  frame_out
  simp only [readCov_ld, canon_w, canon_k]
  rfl

/-- What a grid point in the middle of a batch leaves: the carried arrays stay. -/
theorem stB (c : Dev nD) (t : Fin cfg0.N) (acc) (h0 : ¬t.val % 16 = 0) (h1 : ¬t.val % 4 = 0) :
    stAt0 m c t.val t.isLt acc
      = (block (iblk m c 0 t) (heads (iblk m c 1 t) (iblk m c 2 t) acc.2.2.1 acc.2.2.2)
          (iblk m c 7 t) acc.2.1 (iblk m c 8 t) (iblk m c 9 t), acc.2) := by
  rw [stAt0_B m c t acc h0 h1]
  frame_out
  simp only [readCov_ld, canon_w, canon_k, read_unread_whole]
  rfl

/-- What a grid point whose batch begins, past the first, leaves: new keys and values, the weight as carried. -/
theorem stC (c : Dev nD) (t : Fin cfg0.N) (acc) (h0 : ¬t.val % 16 = 0) (h1 : t.val % 4 = 0) :
    stAt0 m c t.val t.isLt acc
      = (block (iblk m c 0 t) (heads (iblk m c 1 t) (iblk m c 2 t) (k0_pay4 (iblk m c 3 t) (iblk m c 4 t)) (k0_pay5 (iblk m c 3 t) (iblk m c 5 t)))
          (iblk m c 7 t) acc.2.1 (iblk m c 8 t) (iblk m c 9 t),
        acc.2.1, k0_pay4 (iblk m c 3 t) (iblk m c 4 t), k0_pay5 (iblk m c 3 t) (iblk m c 5 t)) := by
  rw [stAt0_C m c t acc h0 h1]
  frame_out
  simp only [readCov_ld, canon_w, canon_k, read_unread_whole]
  rfl

end Cert.KernelIdeal.Own
-- ==== Proof.Spec.lean ====
module

public import Idealize.ShloMosaic.Lib.Pointwise
public import Mathlib.Data.EReal.Operations
public import Mathlib.Analysis.SpecialFunctions.Pow.Real
public import Mathlib.Analysis.Complex.Trigonometric

@[expose] public section

noncomputable section

open Idealize.ShloMosaic

/-! The layer's formulas at one index, over the extended reals, and the identities between the two programs' writings of them. -/

namespace Cert.Spec

/-- The f32 constants of the two programs: minus infinity, the width 1024, the epsilon, the residual's factor, one half. -/
def bot : EReal := Ideal.ofBits .f32 0xFF800000#32
def width : EReal := Ideal.ofBits .f32 0x44800000#32
def eps : EReal := Ideal.ofBits .f32 0x3727C5AC#32
def alpha : EReal := Ideal.ofBits .f32 0x3FB504F3#32
def half : EReal := Ideal.ofBits .f32 0x3F000000#32

/-- One entry of a row's layer normalisation. -/
def norm (y : Fin 1024 → EReal) (w b : EReal) (c : Fin 1024) : EReal :=
  (y c - Ideal.div (∑ x, y x) width)
    * Ideal.rsqrt (Ideal.div (∑ x, (y x - Ideal.div (∑ x, y x) width) * (y x - Ideal.div (∑ x, y x) width)) width + eps) * w + b

/-- Attention over base-two scores, the division after the sum. -/
def attPost (s v : Fin 256 → EReal) : EReal :=
  Ideal.div (∑ x, Ideal.exp2 (s x - Finset.univ.fold max bot s) * v x) (∑ x, Ideal.exp2 (s x - Finset.univ.fold max bot s))

/-- The softmax weight of one key. -/
def weight (s : Fin 256 → EReal) (n : Fin 256) : EReal :=
  Ideal.div (Ideal.exp (s n - max bot (Finset.univ.fold max bot s))) (∑ x, Ideal.exp (s x - max bot (Finset.univ.fold max bot s)))

/-- Attention as softmax weights on the values. -/
def att (s v : Fin 256 → EReal) : EReal := ∑ n, v n * weight s n

/-- The gate written with the hyperbolic tangent, and with the exponential. -/
def siluT (x : EReal) : EReal := half * x + half * x * Ideal.tanh (half * x)
def silu (x : EReal) : EReal := x * Ideal.div 1 (1 + Ideal.exp (-x))

/-- The residual's entry. -/
def resid (x : EReal) (a wa : Fin 1536 → EReal) (o wo : Fin 512 → EReal) : EReal :=
  alpha * x + ((∑ k, a k * wa k) + ∑ k, o k * wo k)

theorem norm_congr {y y' : Fin 1024 → EReal} {w w' b b' : EReal} (hy : ∀ c, y c = y' c) (hw : w = w') (hb : b = b') (c : Fin 1024) :
    norm y w b c = norm y' w' b' c := by
  rw [funext hy, hw, hb]

theorem resid_congr {x x' : EReal} {a a' wa wa' : Fin 1536 → EReal} {o o' wo wo' : Fin 512 → EReal} (hx : x = x') (ha : ∀ k, a k = a' k) (hwa : ∀ k, wa k = wa' k)
    (ho : ∀ k, o k = o' k) (hwo : ∀ k, wo k = wo' k) : resid x a wa o wo = resid x' a' wa' o' wo' := by
  rw [hx, funext ha, funext hwa, funext ho, funext hwo]

theorem attPost_congr {s s' v v' : Fin 256 → EReal} {g g' : EReal} (hs : ∀ n, s n = s' n) (hv : ∀ n, v n = v' n) (hg : g = g') :
    attPost s v * g = attPost s' v' * g' := by
  rw [funext hs, funext hv, hg]

theorem bot_eq : bot = ⊥ := by
  simp [bot, Ideal.ofBits, Ideal.ieee]

theorem half_eq : half = ((1 / 2 : ℝ) : EReal) := by
  unfold half
  simp [Ideal.ofBits, Ideal.ieee]
  rw [← EReal.coe_mul]
  norm_num

theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

theorem fold_le {ι : Type} (s : Finset ι) (f : ι → ℝ) (M : ℝ) (h : ∀ i ∈ s, f i ≤ M) : s.fold max ⊥ (fun i => (f i : EReal)) ≤ (M : EReal) := by
  rw [Finset.fold_max_le]
  exact ⟨bot_le, fun i hi => by exact_mod_cast h i hi⟩

theorem fold_eq (f : Fin 256 → ℝ) (M : ℝ) (i : Fin 256) (hi : f i = M) (h : ∀ i, f i ≤ M) :
    (Finset.univ : Finset (Fin 256)).fold max ⊥ (fun i => (f i : EReal)) = (M : EReal) := by
  refine le_antisymm (fold_le _ f M fun i _ => h i) ?_
  rw [Finset.le_fold_max]
  exact Or.inr ⟨i, Finset.mem_univ _, by rw [hi]⟩

theorem exists_max (f : Fin 256 → ℝ) : ∃ i, ∀ j, f j ≤ f i := by
  obtain ⟨i, _, h⟩ := Finset.exists_max_image Finset.univ f ⟨0, Finset.mem_univ _⟩
  exact ⟨i, fun j => h j (Finset.mem_univ _)⟩

/-- On real scores and values, the two forms agree, where the base-two scores are the natural ones over `log 2`. -/
theorem attPost_eq (σ ν : Fin 256 → ℝ) :
    attPost (fun n => ((σ n / Real.log 2 : ℝ) : EReal)) (fun n => (ν n : EReal)) = att (fun n => (σ n : EReal)) (fun n => (ν n : EReal)) := by
  obtain ⟨i, hi⟩ := exists_max σ
  have hl : 0 < Real.log 2 := Real.log_pos (by norm_num)
  have e1 := fold_eq σ (σ i) i rfl hi
  have e2 := fold_eq (fun n => σ n / Real.log 2) (σ i / Real.log 2) i rfl fun j => (div_le_div_iff_of_pos_right hl).2 (hi j)
  have h2 : ∀ n, Ideal.exp2 (((σ n / Real.log 2 : ℝ) : EReal) - ((σ i / Real.log 2 : ℝ) : EReal)) = ((Real.exp (σ n - σ i) : ℝ) : EReal) := by
    intro n
    rw [← EReal.coe_sub, Ideal.exp2_coe]
    congr 1
    show (2 : ℝ) ^ (σ n / Real.log 2 - σ i / Real.log 2) = _
    rw [Real.rpow_def_of_pos (by norm_num)]
    congr 1
    field_simp
  have hpos : 0 < ∑ n, Real.exp (σ n - σ i) := Finset.sum_pos (fun n _ => Real.exp_pos _) ⟨0, Finset.mem_univ _⟩
  unfold attPost att weight
  rw [bot_eq, e1, e2]
  simp only [h2, max_eq_right (bot_le : (⊥ : EReal) ≤ _)]
  simp only [← EReal.coe_sub, Ideal.exp_coe]
  simp only [← EReal.coe_mul, ← coe_sum]
  rw [Ideal.div_coe hpos.ne']
  simp only [Ideal.div_coe hpos.ne', ← EReal.coe_mul, ← coe_sum]
  congr 1
  rw [Finset.sum_mul]
  exact Finset.sum_congr rfl fun n _ => by ring

theorem siluT_eq (x : ℝ) : siluT (x : EReal) = silu (x : EReal) := by
  unfold siluT silu
  have h : (1 : ℝ) + Real.exp (-x) ≠ 0 := (add_pos one_pos (Real.exp_pos _)).ne'
  have e : (1 : EReal) + ((Real.exp (-x) : ℝ) : EReal) = ((1 + Real.exp (-x) : ℝ) : EReal) := by rw [EReal.coe_add, EReal.coe_one]
  rw [half_eq, ← EReal.coe_mul, Ideal.tanh_coe, ← EReal.coe_neg, Ideal.exp_coe, e, Ideal.div_coe h, one_mul, ← EReal.coe_mul, ← EReal.coe_mul, ← EReal.coe_add]
  congr 1
  have hp : Real.exp (1 / 2 * x) ≠ 0 := (Real.exp_pos _).ne'
  have hn : Real.exp (-x) = (Real.exp (1 / 2 * x))⁻¹ * (Real.exp (1 / 2 * x))⁻¹ := by
    rw [← Real.exp_neg, ← Real.exp_add]; congr 1; ring
  rw [hn] at h ⊢
  rw [Real.tanh_eq_sinh_div_cosh, Real.sinh_eq, Real.cosh_eq, Real.exp_neg]
  generalize Real.exp (1 / 2 * x) = a at *
  have h3 : a + a⁻¹ ≠ 0 := by
    intro h0
    apply h
    have : a * (a + a⁻¹) = 0 := by rw [h0, mul_zero]
    field_simp at this ⊢
    nlinarith
  have h4 : a ^ 2 + 1 ≠ 0 := by positivity
  field_simp
  ring

end Cert.Spec
-- ==== Proof.BlockAt.lean ====
module

public import proofs.«01_k».proof.Proof.Block
public import proofs.«01_k».proof.Proof.Spec
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Own

open Cert.KernelIdeal Cert.KernelIdeal.Gen Cert.KernelIdeal.Value

theorem head_at (q : Vec Ideal S1024x128 .bf16) (k v : Vec Ideal S256x128 .bf16) (g : Vec Ideal S1024x128 .bf16) (r : Fin 1024) (d : Fin 128) :
    head (F := Ideal) q k v g (ix2 r d)
      = Spec.attPost (fun n => ∑ e : Fin 128, q (ix2 r e) * k (ix2 n e)) (fun n => v (ix2 n d)) * g (ix2 r d) := by
  unfold head
  open_payloads
  pointwise
  rfl

theorem resid_at (x : Vec Ideal S128x1024 .f32) (a : Vec Ideal S128x1536 .bf16) (wa : Vec Ideal S1536x1024 .bf16) (o : Vec Ideal S128x512 .bf16) (wo : Vec Ideal S512x1024 .bf16)
    (r : Fin 128) (c : Fin 1024) :
    resid (F := Ideal) x a wa o wo (ix2 r c)
      = Spec.alpha * x (ix2 r c) + ((∑ k : Fin 1536, a (ix2 r k) * wa (ix2 k c)) + ∑ k : Fin 512, o (ix2 r k) * wo (ix2 k c)) := by
  unfold resid
  open_payloads
  pointwise
  rw [add_assoc]
  rfl

theorem norm_at (y : FVec Ideal S128x1024 .f32) (lw lb : Vec Ideal S1x1024 .f32) (r : Fin 128) (c : Fin 1024) :
    norm (F := Ideal) y lw lb (ix2 r c) = Spec.norm (fun c => y (ix2 r c)) (lw (ix2 0 c)) (lb (ix2 0 c)) c := by
  unfold norm
  open_payloads
  pointwise
  rfl

/-- The column of head `c / 128` at place `e`. -/
def col (c : Fin 512) (e : Fin 128) : Fin 512 := ⟨c.val / 128 * 128 + e.val, by omega⟩

theorem ld_at {N M n k : ℕ} {φ : EltTy} (X : Vec Ideal ⟨2, ![N, M]⟩ φ) (p q : ℕ) (inb) (i : Fin n) (j : Fin k) (i' : Fin N) (j' : Fin M)
    (hi : i'.val = p + i.val) (hj : j'.val = q + j.val) :
    (View.ld X (Rect.unit ![p, q] ![n, k] inb) : Vec Ideal ⟨2, ![n, k]⟩ φ) (ix2 i j) = X (ix2 i' j') := by
  rw [View.ld_apply]
  congr 1
  funext a
  apply Fin.ext
  rw [Rect.idx_unit_val]
  fin_cases a
  · exact hi.symm
  · exact hj.symm

theorem heads_at (a1 a2 : Vec Ideal S1024x512 .bf16) (k v : Vec Ideal S256x512 .bf16) (r : Fin 1024) (c : Fin 512) :
    heads (F := Ideal) a1 a2 k v (ix2 r c)
      = Spec.attPost (fun n => ∑ e : Fin 128, a1 (ix2 r (col c e)) * k (ix2 n (col c e))) (fun n => v (ix2 n c)) * a2 (ix2 r c) := by
  unfold heads
  canon_tiles x h
  all_goals
    obtain ⟨r', d, rfl⟩ : ∃ r' d, x = ix2 r' d := ⟨_, _, (ix2_eta x).symm⟩
    rw [head_at]
    change (r : ℕ) = r' at h0
    change (c : ℕ) = _ at h1
    have hd : d.val < 128 := d.isLt
    first | change (c : ℕ) = _ + d.val at h1 | change (c : ℕ) = d.val at h1
    congr 1
    · congr 1
      · funext n
        refine Finset.sum_congr rfl fun e _ => ?_
        have he : e.val < 128 := e.isLt
        congr 1
        · refine ld_at _ _ _ _ _ _ _ _ (by omega) ?_
          show c.val / 128 * 128 + e.val = _
          omega
        · refine ld_at _ _ _ _ _ _ _ _ (by omega) ?_
          show c.val / 128 * 128 + e.val = _
          omega
      · funext n
        exact ld_at _ _ _ _ _ _ _ _ (by omega) (by omega)
    · exact ld_at _ _ _ _ _ _ _ _ (by omega) (by omega)

theorem block_at (a0 : Vec Ideal S1024x1536 .bf16) (o : Vec Ideal S1024x512 .bf16) (a7 : Vec Ideal S1024x1024 .f32) (w : Vec Ideal S2048x1024 .bf16) (lw lb : Vec Ideal S1x1024 .f32)
    (r : Fin 1024) (c : Fin 1024) :
    block (F := Ideal) a0 o a7 w lw lb (ix2 r c)
      = Spec.norm (fun c => Spec.resid (a7 (ix2 r c)) (fun k => a0 (ix2 r k)) (fun k => w (ix2 ⟨k.val, by omega⟩ c)) (fun k => o (ix2 r k)) (fun k => w (ix2 ⟨1536 + k.val, by omega⟩ c)))
          (lw (ix2 0 c)) (lb (ix2 0 c)) c := by
  unfold block
  canon_tiles x h
  all_goals
    obtain ⟨r', d, rfl⟩ : ∃ r' d, x = ix2 r' d := ⟨_, _, (ix2_eta x).symm⟩
    obtain rfl : c = d := Fin.ext h1
    change (r : ℕ) = _ at h0
    rw [norm_at]
    congr 1
    funext j
    rw [resid_at]
    unfold Spec.resid
    congr 1
    · congr 1
      exact ld_at _ _ _ _ _ _ _ _ (by first | exact h0 | exact h0.trans (Nat.zero_add _).symm) (by omega)
    · congr 1
      · refine Finset.sum_congr rfl fun k _ => ?_
        congr 1
        · exact ld_at _ _ _ _ _ _ _ _ (by first | exact h0 | exact h0.trans (Nat.zero_add _).symm) (by omega)
        · exact ld_at _ _ _ _ _ _ _ _ (Nat.zero_add _).symm (by omega)
      · refine Finset.sum_congr rfl fun k _ => ?_
        congr 1
        · exact ld_at _ _ _ _ _ _ _ _ (by first | exact h0 | exact h0.trans (Nat.zero_add _).symm) (by omega)
        · exact ld_at _ _ _ _ _ _ _ _ rfl (by omega)

end Cert.KernelIdeal.Own
-- ==== Proof.Blk.lean ====
module

public import proofs.«01_k».proof.Proof.Gen.KernelIdeal.Value
public import proofs.«01_k».proof.Proof.Spec
public import proofs.«01_k».proof.Proof.Spec
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Own

open Cert.KernelIdeal Cert.KernelIdeal.Gen Cert.KernelIdeal.Value

variable (m : (ℓ : Loc nD τ sig) → Buf (Elt Ideal) ℓ)

theorem idx : ∀ t : Fin cfg0.N, win0_0.index t = ![t.val, 0] ∧ win0_1.index t = ![t.val, 0] ∧ win0_2.index t = ![t.val, 1] ∧ win0_3.index t = ![t.val / 4, 0, 0]
    ∧ win0_4.index t = ![0, 0] ∧ win0_5.index t = ![0, 0] ∧ win0_6.index t = ![0, 0] ∧ win0_7.index t = ![t.val, 0] ∧ win0_8.index t = ![0, 0] ∧ win0_9.index t = ![0, 0] :=
  (by decide +kernel : ∀ t : Fin grid0.N, _)

/-- The kernel's arguments as launched on a device. -/
abbrev A0 (c : Dev nD) : FVec Ideal S4x4096x1536 .f32 := m ((c : Thread nD τ).loc main_arg0)
abbrev A1 (c : Dev nD) : FVec Ideal S4x4096x512 .f32 := m ((c : Thread nD τ).loc main_arg1)
abbrev A2 (c : Dev nD) : FVec Ideal S4x4096x512 .f32 := m ((c : Thread nD τ).loc main_arg2)
abbrev A3 (c : Dev nD) : FVec Ideal S4x256x1024 .f32 := m ((c : Thread nD τ).loc main_arg3)
abbrev A4 (c : Dev nD) : FVec Ideal S1024x512 .f32 := m ((c : Thread nD τ).loc main_arg4)
abbrev A5 (c : Dev nD) : FVec Ideal S1024x512 .f32 := m ((c : Thread nD τ).loc main_arg5)
abbrev A6 (c : Dev nD) : FVec Ideal S2048x1024 .f32 := m ((c : Thread nD τ).loc main_arg6)
abbrev A7 (c : Dev nD) : FVec Ideal S4x4096x1024 .f32 := m ((c : Thread nD τ).loc main_arg7)
abbrev A8 (c : Dev nD) : FVec Ideal S1024 .f32 := m ((c : Thread nD τ).loc main_arg8)
abbrev A9 (c : Dev nD) : FVec Ideal S1024 .f32 := m ((c : Thread nD τ).loc main_arg9)

/-- The batch of a grid point, and the place of its block's row within the batch. -/
def bat (t : Fin cfg0.N) : Fin 4 := ⟨t.val / 4, by have := t.isLt; have : cfg0.N = 16 := N_0; omega⟩
def pos (t : Fin cfg0.N) (r : Fin 1024) : Fin 4096 := ⟨t.val % 4 * 1024 + r.val, by omega⟩

theorem iblk0_at (c : Dev nD) (t : Fin cfg0.N) (r : Fin 1024) (d : Fin 1536) :
    (iblk m c 0 t : Vec Ideal S1024x1536 .bf16) (ix2 r d) = A0 m c (ix3 (bat t) (pos t r) d) := by
  unfold bat pos
  blk_point [iblk, V, idx t]

/-- The prepared attention operands: the scaled queries beside the gates. -/
theorem acts_at (c : Dev nD) (r : Fin 16384) (d : Fin 1024) :
    (V m c main_v13 : Vec Ideal S16384x1024 .bf16) (ix2 r d)
      = if h : d.val < 512 then
          A1 m c (ix3 ⟨r.val / 4096, by omega⟩ ⟨r.val % 4096, by omega⟩ ⟨d.val, h⟩) * Ideal.div (Ideal.rsqrt (Ideal.ofBits .f32 0x43000000#32)) (Ideal.log (Ideal.ofBits .f32 0x40000000#32))
        else Spec.siluT (A2 m c (ix3 ⟨r.val / 4096, by omega⟩ ⟨r.val % 4096, by omega⟩ ⟨d.val - 512, by omega⟩)) := by
  entry_read
  pointwise
  rfl

theorem acts1 (c : Dev nD) (t : Fin cfg0.N) (r : Fin 1024) (d : Fin 512) :
    (iblk m c 1 t : Vec Ideal S1024x512 .bf16) (ix2 r d)
      = (V m c main_v13 : Vec Ideal S16384x1024 .bf16) (ix2 ⟨t.val * 1024 + r.val, by have := t.isLt; have : cfg0.N = 16 := N_0; omega⟩ ⟨d.val, by omega⟩) := by
  generalize hV : (V m c main_v13 : Vec Ideal S16384x1024 .bf16) = W
  unfold iblk
  change View.read (Elt Ideal) ((cfg0.win 1).blk t).view (V m c main_v13) (ix2 r d) = _
  rw [hV]
  blk_ext [idx t]

theorem acts2 (c : Dev nD) (t : Fin cfg0.N) (r : Fin 1024) (d : Fin 512) :
    (iblk m c 2 t : Vec Ideal S1024x512 .bf16) (ix2 r d)
      = (V m c main_v13 : Vec Ideal S16384x1024 .bf16) (ix2 ⟨t.val * 1024 + r.val, by have := t.isLt; have : cfg0.N = 16 := N_0; omega⟩ ⟨512 + d.val, by omega⟩) := by
  generalize hV : (V m c main_v13 : Vec Ideal S16384x1024 .bf16) = W
  unfold iblk
  change View.read (Elt Ideal) ((cfg0.win 2).blk t).view (V m c main_v13) (ix2 r d) = _
  rw [hV]
  blk_ext [idx t]

theorem bat_eq (t : Fin cfg0.N) (r : Fin 1024) (h) : (⟨(t.val * 1024 + r.val) / 4096, h⟩ : Fin 4) = bat t :=
  Fin.ext (by show (t.val * 1024 + r.val) / 4096 = t.val / 4; omega)
theorem pos_eq (t : Fin cfg0.N) (r : Fin 1024) (h) : (⟨(t.val * 1024 + r.val) % 4096, h⟩ : Fin 4096) = pos t r :=
  Fin.ext (by show (t.val * 1024 + r.val) % 4096 = t.val % 4 * 1024 + r.val; omega)

theorem iblk1_at (c : Dev nD) (t : Fin cfg0.N) (r : Fin 1024) (d : Fin 512) :
    (iblk m c 1 t : Vec Ideal S1024x512 .bf16) (ix2 r d)
      = A1 m c (ix3 (bat t) (pos t r) d) * Ideal.div (Ideal.rsqrt (Ideal.ofBits .f32 0x43000000#32)) (Ideal.log (Ideal.ofBits .f32 0x40000000#32)) := by
  rw [acts1, acts_at, dif_pos d.isLt]
  simp only [bat_eq, pos_eq]

theorem iblk2_at (c : Dev nD) (t : Fin cfg0.N) (r : Fin 1024) (d : Fin 512) :
    (iblk m c 2 t : Vec Ideal S1024x512 .bf16) (ix2 r d) = Spec.siluT (A2 m c (ix3 (bat t) (pos t r) d)) := by
  rw [acts2, acts_at, dif_neg (show ¬ 512 + d.val < 512 by omega)]
  simp only [bat_eq, pos_eq, Nat.add_sub_cancel_left]

theorem iblk4_at (c : Dev nD) (t : Fin cfg0.N) (r : Fin 1024) (d : Fin 512) :
    (iblk m c 4 t : Vec Ideal S1024x512 .f32) (ix2 r d) = A4 m c (ix2 r d) := by
  blk_point [iblk, V, idx t]

theorem iblk5_at (c : Dev nD) (t : Fin cfg0.N) (r : Fin 1024) (d : Fin 512) :
    (iblk m c 5 t : Vec Ideal S1024x512 .f32) (ix2 r d) = A5 m c (ix2 r d) := by
  blk_point [iblk, V, idx t]

theorem iblk6_at (c : Dev nD) (t : Fin cfg0.N) (r : Fin 2048) (d : Fin 1024) :
    (iblk m c 6 t : Vec Ideal S2048x1024 .f32) (ix2 r d) = A6 m c (ix2 r d) := by
  blk_point [iblk, V, idx t]

theorem iblk7_at (c : Dev nD) (t : Fin cfg0.N) (r : Fin 1024) (d : Fin 1024) :
    (iblk m c 7 t : Vec Ideal S1024x1024 .f32) (ix2 r d) = A7 m c (ix3 (bat t) (pos t r) d) := by
  unfold bat pos
  blk_point [iblk, V, idx t]

theorem iblk8_at (c : Dev nD) (t : Fin cfg0.N) (d : Fin 1024) :
    (iblk m c 8 t : Vec Ideal S1x1024 .f32) (ix2 0 d) = A8 m c (ix1 d) := by
  blk_point [iblk, V, idx t]

theorem iblk9_at (c : Dev nD) (t : Fin cfg0.N) (d : Fin 1024) :
    (iblk m c 9 t : Vec Ideal S1x1024 .f32) (ix2 0 d) = A9 m c (ix1 d) := by
  blk_point [iblk, V, idx t]

theorem iblk3_at (c : Dev nD) (t : Fin cfg0.N) (r : Fin 256) (d : Fin 1024) :
    (iblk m c 3 t : Vec Ideal S1x256x1024 .f32) (ix3 0 r d) = A3 m c (ix3 (bat t) r d) := by
  unfold bat
  blk_point [iblk, V, idx t]

end Cert.KernelIdeal.Own
-- ==== Proof.Fold.lean ====
module

public import proofs.«01_k».proof.Proof.BlockAt
public import proofs.«01_k».proof.Proof.Blk

@[expose] public section

set_option maxRecDepth 16384

noncomputable section

open Idealize.ShloMosaic Idealize.ShloMosaic.TcCoe Idealize.SL.Sem
open Idealize.ShloMosaic.Pipeline (Dat)

namespace Cert.KernelIdeal.Own

open Cert.KernelIdeal Cert.KernelIdeal.Gen Cert.KernelIdeal.Value

theorem wb_at (w : Vec Ideal S2048x1024 .f32) (r : Fin 2048) (c : Fin 1024) : k0_pay2 (F := Ideal) w (ix2 r c) = w (ix2 r c) := by
  open_payloads
  pointwise

theorem key_at (x : Vec Ideal S1x256x1024 .f32) (w : Vec Ideal S1024x512 .f32) (n : Fin 256) (c : Fin 512) :
    k0_pay4 (F := Ideal) x w (ix2 n c) = ∑ k : Fin 1024, x (ix3 0 n k) * w (ix2 k c) := by
  open_payloads
  pointwise

theorem value_at (x : Vec Ideal S1x256x1024 .f32) (w : Vec Ideal S1024x512 .f32) (n : Fin 256) (c : Fin 512) :
    k0_pay5 (F := Ideal) x w (ix2 n c) = ∑ k : Fin 1024, x (ix3 0 n k) * w (ix2 k c) := by
  open_payloads
  pointwise

variable (m : (ℓ : Loc nD τ sig) → Buf (Elt Ideal) ℓ)

/-- The rounded weight and one batch's keys and values, as the carried arrays hold them at a point. -/
def wgt (c : Dev nD) (t : Fin cfg0.N) : Vec Ideal S2048x1024 .bf16 := k0_pay2 (iblk m c 6 t)
def keys (c : Dev nD) (t : Fin cfg0.N) : Vec Ideal S256x512 .bf16 := k0_pay4 (iblk m c 3 t) (iblk m c 4 t)
def vals (c : Dev nD) (t : Fin cfg0.N) : Vec Ideal S256x512 .bf16 := k0_pay5 (iblk m c 3 t) (iblk m c 5 t)

theorem wgt_at (c : Dev nD) (t : Fin cfg0.N) (r : Fin 2048) (j : Fin 1024) : wgt m c t (ix2 r j) = A6 m c (ix2 r j) :=
  (wb_at _ r j).trans (iblk6_at m c t r j)

theorem keys_at (c : Dev nD) (t : Fin cfg0.N) (n : Fin 256) (j : Fin 512) :
    keys m c t (ix2 n j) = ∑ k : Fin 1024, A3 m c (ix3 (bat t) n k) * A4 m c (ix2 k j) :=
  (key_at _ _ n j).trans (Finset.sum_congr rfl fun k _ => by rw [iblk3_at m c t n k, iblk4_at m c t k j])

theorem vals_at (c : Dev nD) (t : Fin cfg0.N) (n : Fin 256) (j : Fin 512) :
    vals m c t (ix2 n j) = ∑ k : Fin 1024, A3 m c (ix3 (bat t) n k) * A5 m c (ix2 k j) :=
  (value_at _ _ n j).trans (Finset.sum_congr rfl fun k _ => by rw [iblk3_at m c t n k, iblk5_at m c t k j])

theorem wgt_eq (c : Dev nD) (t t' : Fin cfg0.N) : wgt m c t = wgt m c t' := by
  funext i
  obtain ⟨r, j, rfl⟩ : ∃ r j, i = ix2 r j := ⟨_, _, (ix2_eta i).symm⟩
  rw [wgt_at, wgt_at]

theorem keys_eq (c : Dev nD) (t t' : Fin cfg0.N) (h : bat t = bat t') : keys m c t = keys m c t' := by
  funext i
  obtain ⟨r, j, rfl⟩ : ∃ r j, i = ix2 r j := ⟨_, _, (ix2_eta i).symm⟩
  rw [keys_at, keys_at, h]

theorem vals_eq (c : Dev nD) (t t' : Fin cfg0.N) (h : bat t = bat t') : vals m c t = vals m c t' := by
  funext i
  obtain ⟨r, j, rfl⟩ : ∃ r j, i = ix2 r j := ⟨_, _, (ix2_eta i).symm⟩
  rw [vals_at, vals_at, h]

/-- The output block of a grid point. -/
def outBlk (c : Dev nD) (t : Fin cfg0.N) : Vec Ideal S1024x1024 .f32 :=
  block (iblk m c 0 t) (heads (iblk m c 1 t) (iblk m c 2 t) (keys m c t) (vals m c t)) (iblk m c 7 t) (wgt m c t) (iblk m c 8 t) (iblk m c 9 t)

/-- What a grid point leaves: its output block, and the carried arrays at the launch's weight and its batch's keys and values. -/
def left (c : Dev nD) (t : Fin cfg0.N) : Vec Ideal S1024x1024 .f32 × Vec Ideal S2048x1024 .bf16 × Vec Ideal S256x512 .bf16 × Vec Ideal S256x512 .bf16 :=
  (outBlk m c t, wgt m c t, keys m c t, vals m c t)

theorem step_left (c : Dev nD) (n : ℕ) (h : n + 1 < cfg0.N) :
    stAt0 m c (n + 1) h (left m c ⟨n, Nat.lt_of_succ_lt h⟩) = left m c ⟨n + 1, h⟩ := by
  have hN : cfg0.N = 16 := N_0
  have h0 : ¬(n + 1) % 16 = 0 := by omega
  have ew := wgt_eq m c ⟨n, Nat.lt_of_succ_lt h⟩ ⟨n + 1, h⟩
  by_cases h1 : (n + 1) % 4 = 0
  · rw [stC m c ⟨n + 1, h⟩ _ h0 h1]
    unfold left outBlk
    rw [ew]
    rfl
  · have hb : bat ⟨n, Nat.lt_of_succ_lt h⟩ = bat ⟨n + 1, h⟩ := Fin.ext (by show n / 4 = (n + 1) / 4; omega)
    rw [stB m c ⟨n + 1, h⟩ _ h0 h1]
    unfold left outBlk
    rw [ew, keys_eq m c _ _ hb, vals_eq m c _ _ hb]

theorem acc_left (c : Dev nD) : ∀ (n : ℕ) (h : 0 + n < cfg0.N) (h' : n < cfg0.N),
    Pipeline.accAt (fun n h => stAt0 m c n h junk0) (stAt0 m c) 0 n h = left m c ⟨n, h'⟩
  | 0, h, h' => (stA m c ⟨0, h'⟩ _ rfl rfl)
  | n + 1, h, h' => by
    rw [Pipeline.accAt_succ, acc_left c n _ (Nat.lt_of_succ_lt h')]
    have e : ∀ (k : ℕ) (hk : k < cfg0.N), k = n + 1 → stAt0 m c k hk (left m c ⟨n, Nat.lt_of_succ_lt h'⟩) = left m c ⟨n + 1, h'⟩ := by
      rintro k hk rfl
      exact step_left m c n h'
    exact e _ h (by omega)

/-- One entry of the gated attention, from the launch's arguments: batch `b`, place `p`, column `k`. -/
def mixed (c : Dev nD) (b : Fin 4) (p : Fin 4096) (k : Fin 512) : EReal :=
  Spec.attPost
    (fun n => ∑ e : Fin 128, (A1 m c (ix3 b p (col k e)) * Ideal.div (Ideal.rsqrt (Ideal.ofBits .f32 0x43000000#32)) (Ideal.log (Ideal.ofBits .f32 0x40000000#32)))
      * ∑ i : Fin 1024, A3 m c (ix3 b n i) * A4 m c (ix2 i (col k e)))
    (fun n => ∑ i : Fin 1024, A3 m c (ix3 b n i) * A5 m c (ix2 i k))
  * Spec.siluT (A2 m c (ix3 b p k))

theorem heads_mixed (c : Dev nD) (t : Fin cfg0.N) (r : Fin 1024) (k : Fin 512) :
    heads (F := Ideal) (iblk m c 1 t) (iblk m c 2 t) (keys m c t) (vals m c t) (ix2 r k) = mixed m c (bat t) (pos t r) k :=
  (heads_at _ _ _ _ r k).trans (Spec.attPost_congr
    (fun n => Finset.sum_congr rfl fun e _ => congrArg₂ (fun x y : EReal => x * y) (iblk1_at m c t r (col k e)) (keys_at m c t n (col k e)))
    (fun n => vals_at m c t n k) (iblk2_at m c t r k))

/-- One entry of the result, from the launch's arguments. -/
def entry (c : Dev nD) (b : Fin 4) (p : Fin 4096) (j : Fin 1024) : EReal :=
  Spec.norm (fun j => Spec.resid (A7 m c (ix3 b p j)) (fun k => A0 m c (ix3 b p k)) (fun k => A6 m c (ix2 ⟨k.val, by omega⟩ j))
    (fun k => mixed m c b p k) (fun k => A6 m c (ix2 ⟨1536 + k.val, by omega⟩ j))) (A8 m c (ix1 j)) (A9 m c (ix1 j)) j

theorem outBlk_at (c : Dev nD) (t : Fin cfg0.N) (r j : Fin 1024) : outBlk m c t (ix2 r j) = entry m c (bat t) (pos t r) j :=
  (block_at _ _ _ _ _ _ r j).trans (Spec.norm_congr
    (fun i => Spec.resid_congr (iblk7_at m c t r i) (fun k => iblk0_at m c t r k) (fun k => wgt_at m c t _ i) (fun k => heads_mixed m c t r k) (fun k => wgt_at m c t _ i))
    (iblk8_at m c t j) (iblk9_at m c t j) j)

theorem left_fst (c : Dev nD) (t : Fin cfg0.N) : (left m c t).1 = outBlk m c t := by
  rw [left]

theorem acc_fst (c : Dev nD) (n : ℕ) (hn : n < cfg0.N) (k : ℕ) (hk : 0 + k < cfg0.N) (e : k = n) :
    (Pipeline.accAt (fun n h => stAt0 m c n h junk0) (stAt0 m c) 0 k hk).1 = outBlk m c ⟨n, hn⟩ := by
  subst e
  exact (congrArg Prod.fst (acc_left m c k hk hn)).trans (left_fst m c ⟨k, hn⟩)

theorem pt_eq (r : Fin 16384) (j : Fin 1024) (t : Fin cfg0.N) (r' : Fin 1024) (h : r.val = t.val * 1024 + r'.val) : pt10Of (ix2 r j) = t.val := by
  change 1 * (r.val / 1024 - 0) + 1 * (j.val / 1024 - 0) = t.val
  omega

theorem loc_eq (r : Fin 16384) (j : Fin 1024) (t : Fin cfg0.N) (r' : Fin 1024) (h : r.val = t.val * 1024 + r'.val) : loc10Of (ix2 r j) = ix2 r' j := by
  funext a
  apply Fin.ext
  fin_cases a
  · change r.val % 1024 = r'.val
    omega
  · change j.val % 1024 = j.val
    omega

/-- The result array at a row and a column. -/
theorem G10_at (c : Dev nD) (r : Fin 16384) (j : Fin 1024) (t : Fin cfg0.N) (r' : Fin 1024) (h : r.val = t.val * 1024 + r'.val) :
    (G10 m c : FVec Ideal S16384x1024 .f32) (ix2 r j) = outBlk m c t (ix2 r' j) := by
  have hp := pt_eq r j t r' h
  unfold G10
  rw [dif_pos (show pt10Of (ix2 r j) < cfg0.N by rw [hp]; exact t.isLt), acc_fst m c t.val t.isLt _ _ hp, loc_eq r j t r' h]

end Cert.KernelIdeal.Own
-- ==== Proof.RefVal.lean ====
module

public import proofs.«01_k».proof.Proof.Gen.ReferenceIdeal.Read
public import Idealize.ShloMosaic.Lib.Pointwise
public import proofs.«01_k».proof.Proof.Spec

@[expose] public section

set_option maxRecDepth 16384

noncomputable section

open Idealize.ShloMosaic Idealize.ShloMosaic.TcCoe Idealize.SL.Sem

namespace Cert.ReferenceIdeal.Spec

open Cert.ReferenceIdeal Cert.ReferenceIdeal.Gen Cert.ReferenceIdeal.Read

variable (x0 : FVec Ideal S4x4096x1536 .f32) (x1 x2 : FVec Ideal S4x4096x512 .f32) (x3 : FVec Ideal S4x256x1024 .f32)
  (x4 x5 : FVec Ideal S1024x512 .f32) (x6 : FVec Ideal S2048x1024 .f32) (x7 : FVec Ideal S4x4096x1024 .f32)
  (x8 x9 : FVec Ideal S1024 .f32)

/-- The place of an embedding column within its head. -/
def hcol (h : Fin 4) (x : Fin 128) : Fin 512 := ⟨h.val * 128 + x.val, by omega⟩

theorem score_at (b h : Fin 4) (t : Fin 4096) (n : Fin 256) :
    val_main_v8 (F := Ideal) x1 x3 x4 (ix4 b h t n)
      = (∑ x : Fin 128, x1 (ix3 b t (hcol h x)) * ∑ k : Fin 1024, x3 (ix3 b n k) * x4 (ix2 k (hcol h x))) * Ideal.rsqrt (Ideal.ofBits .f32 0x43000000#32) := by
  pointwise [val_main_v8, val_main_v7, val_main_v6, val_main_cst, val_main_v5, val_main_v2, val_main_v1, val_main_v0]
  rfl

theorem max_at (b h : Fin 4) (t : Fin 4096) :
    val_main_v9 (F := Ideal) x1 x3 x4 (ix3 b h t)
      = (Finset.univ : Finset (Fin 256)).fold max (Ideal.ofBits .f32 0xFF800000#32) fun n => val_main_v8 (F := Ideal) x1 x3 x4 (ix4 b h t n) := by
  unfold val_main_v9
  have hr : S4x4x4096x256.Reduces [3] S4x4x4096 := by decide
  rw [Host.reduce_eq_fold_single FloatOps.maximumf _ _ _ hr]
  refine Finset.fold_congr fun n _ => ?_
  rw [Function.comp_apply]
  congr 1
  funext a
  fin_cases a <;> rfl

theorem soft_at (b h : Fin 4) (t : Fin 4096) (n : Fin 256) :
    val_main_v15 (F := Ideal) x1 x3 x4 (ix4 b h t n)
      = Ideal.exp (val_main_v8 (F := Ideal) x1 x3 x4 (ix4 b h t n) - max (Ideal.ofBits .f32 0xFF800000#32) (val_main_v9 (F := Ideal) x1 x3 x4 (ix3 b h t))) := by
  have e1 : idx_main_v12 (idx_main_v13 (ix4 b h t n)) = ix3 b h t := by
    funext a; fin_cases a <;> rfl
  rw [val_main_v15_apply, val_main_v14_apply, val_main_v13_apply, val_main_v12_apply, val_main_v11_apply, val_main_v10_apply, e1, val_main_cst_1_apply]
  rfl

theorem soft_at2 (b h : Fin 4) (t : Fin 4096) (n : Fin 256) :
    val_main_v19 (F := Ideal) x1 x3 x4 (ix4 b h t n)
      = Ideal.div (val_main_v15 (F := Ideal) x1 x3 x4 (ix4 b h t n)) (∑ n, val_main_v15 (F := Ideal) x1 x3 x4 (ix4 b h t n)) := by
  pointwise [val_main_v19, val_main_v18, val_main_v17, val_main_v16, val_main_cst_2]

theorem weight_at (b h : Fin 4) (t : Fin 4096) (n : Fin 256) :
    val_main_v19 (F := Ideal) x1 x3 x4 (ix4 b h t n) = Cert.Spec.weight (fun n => val_main_v8 (F := Ideal) x1 x3 x4 (ix4 b h t n)) n := by
  rw [soft_at2]
  simp only [soft_at, max_at]
  rfl

theorem om_at (b : Fin 4) (t : Fin 4096) (c : Fin 512) :
    val_main_v24 (F := Ideal) x1 x2 x3 x4 x5 (ix3 b t c)
      = Cert.Spec.att (fun n => val_main_v8 (F := Ideal) x1 x3 x4 (ix4 b ⟨c.val / 128, by omega⟩ t n)) (fun n => ∑ k : Fin 1024, x3 (ix3 b n k) * x5 (ix2 k c))
        * Cert.Spec.silu (x2 (ix3 b t c)) := by
  have e : val_main_v24 (F := Ideal) x1 x2 x3 x4 x5 (ix3 b t c)
      = (∑ n, (∑ k : Fin 1024, x3 (ix3 b n k) * x5 (ix2 k c)) * val_main_v19 (F := Ideal) x1 x3 x4 (ix4 b ⟨c.val / 128, by omega⟩ t n))
        * (x2 (ix3 b t c) * Ideal.div 1 (1 + Ideal.exp (-x2 (ix3 b t c)))) := by
    pointwise [val_main_v24, val_main_v23, val_main_v22, val_main_v21, val_main_v20, val_main_v4, val_main_v3, val_main_call0_v5, val_main_call0_v4, val_main_call0_v3, val_main_call0_v2, val_main_call0_v1, val_main_call0_v0, val_main_call0_cst_0, val_main_call0_cst]
  rw [e]
  simp only [weight_at]
  rfl

theorem y_at (b : Fin 4) (t : Fin 4096) (c : Fin 1024) :
    val_main_v29 (F := Ideal) x0 x1 x2 x3 x4 x5 x6 x7 (ix3 b t c)
      = Cert.Spec.resid (x7 (ix3 b t c)) (fun k => x0 (ix3 b t k)) (fun k => x6 (ix2 ⟨k.val, by omega⟩ c))
          (fun k => val_main_v24 (F := Ideal) x1 x2 x3 x4 x5 (ix3 b t k)) (fun k => x6 (ix2 ⟨1536 + k.val, by omega⟩ c)) := by
  pointwise [val_main_v29, val_main_v28, val_main_v27, val_main_v26, val_main_v25, val_main_cst_3]
  rfl

theorem out_at (r : Fin 16384) (c : Fin 1024) :
    val_main_v54 (F := Ideal) x0 x1 x2 x3 x4 x5 x6 x7 x8 x9 (ix2 r c)
      = Cert.Spec.norm (fun c => val_main_v29 (F := Ideal) x0 x1 x2 x3 x4 x5 x6 x7 (ix3 ⟨r.val / 4096, by omega⟩ ⟨r.val % 4096, by omega⟩ c)) (x8 (ix1 c)) (x9 (ix1 c)) c := by
  pointwise [val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_cst_4, val_main_cst_5, val_main_cst_6, val_main_cst_7, val_main_cst_8]
  rfl

end Cert.ReferenceIdeal.Spec
-- ==== Proof.Finite.lean ====
module

public import proofs.«01_k».proof.Defs
public import proofs.«01_k».proof.Proof.Gen.Pre_finite
public import Idealize.ShloMosaic.Lib.ReduceAll
public import Idealize.ShloMosaic.Lib.Pointwise

@[expose] public section

noncomputable section

open Idealize.ShloMosaic Idealize.ShloMosaic.TcCoe Idealize.SL.Sem

/-! What the precondition says: the five arrays it names hold real numbers. -/

namespace Cert.Pre_finite.Own

open Cert.Pre_finite

theorem and_one {x y : BitVec 1} (h : x &&& y = 1#1) : x = 1#1 ∧ y = 1#1 := by
  revert x y; decide

/-- A number whose absolute value is below infinity is real. -/
theorem real_of_lt (x : EReal) (h : FloatOps.cmpf (F := Ideal) (φ := .f32) .olt (FloatOps.absf (F := Ideal) (φ := .f32) x) (Ideal.ofBits .f32 0x7F800000#32) = 1#1) :
    ∃ r : ℝ, x = r := by
  have ht : Ideal.ofBits .f32 0x7F800000#32 = ⊤ := by simp [Ideal.ofBits, Ideal.ieee]
  rw [ht] at h
  induction x with
  | bot => exact absurd h (by simp [Ideal.cmpf_def, Ideal.cmp, Ideal.absf_def])
  | top => exact absurd h (by simp [Ideal.cmpf_def, Ideal.cmp, Ideal.absf_def])
  | coe r => exact ⟨r, rfl⟩

theorem all_real {s : Shape} {axes : List (Fin s.rank)} (x : FVec Ideal s .f32) (hb : S_.BroadcastsInDim s (![] : Fin 0 → Fin s.rank)) (hr : s.ReducesTo axes S_) (hu : 0 < S_.numel)
    (h : Host.reduce IntOp.andi (cmpf .olt (Host.absf x) (broadcastInDim s ![] hb (constant S_ .f32 0x7F800000#32))) (constantI S_ 1 1#1) hr hu (Shape.Idx.first hu) = 1#1) (i : s.Idx) :
    ∃ r : ℝ, x i = r := by
  have := Host.reduce_andi_all (t := S_) _ _ hr hu _ h i
  exact real_of_lt _ this

theorem reals [Facts] {a0 a1 a2 a3 a4 a5 a6 a7 a8 a9} (h : Cert.Pre_finite.fn (F := Ideal) a0 a1 a2 a3 a4 a5 a6 a7 a8 a9 = fun _ => 1#1) :
    (∀ i, ∃ r : ℝ, a1 i = r) ∧ (∀ i, ∃ r : ℝ, a2 i = r) ∧ (∀ i, ∃ r : ℝ, a3 i = r) ∧ (∀ i, ∃ r : ℝ, a4 i = r) ∧ (∀ i, ∃ r : ℝ, a5 i = r) := by
  have e := congrFun h (Shape.Idx.first Facts.h_S_)
  unfold fn fn_part1 at e
  obtain ⟨e, e5⟩ := and_one e
  obtain ⟨e, e4⟩ := and_one e
  obtain ⟨e, e3⟩ := and_one e
  obtain ⟨e1, e2⟩ := and_one e
  exact ⟨all_real _ _ _ _ e1, all_real _ _ _ _ e2, all_real _ _ _ _ e3, all_real _ _ _ _ e4, all_real _ _ _ _ e5⟩

end Cert.Pre_finite.Own
-- ==== Proof.Agree.lean ====
module

public import proofs.«01_k».proof.Proof.Fold
public import proofs.«01_k».proof.Proof.RefVal
public import proofs.«01_k».proof.Proof.Finite

@[expose] public section

set_option maxRecDepth 16384

noncomputable section

open Idealize.ShloMosaic Idealize.ShloMosaic.TcCoe Idealize.SL.Sem

/-! The two programs' results are one array, where the attention's operands are real. -/

namespace Cert.Agree

open Cert.KernelIdeal Cert.KernelIdeal.Own

theorem rsqrt_128 : Ideal.rsqrt (Ideal.ofBits .f32 0x43000000#32) = (((Real.sqrt 128)⁻¹ : ℝ) : EReal) := by
  have h : Ideal.ofBits .f32 0x43000000#32 = ((128 : ℝ) : EReal) := by
    simp [Ideal.ofBits, Ideal.ieee]
    rw [← EReal.coe_mul]
    norm_num
  rw [h, Ideal.rsqrt_coe, if_neg (by norm_num), if_neg (by norm_num)]

theorem log_2 : Ideal.log (Ideal.ofBits .f32 0x40000000#32) = ((Real.log 2 : ℝ) : EReal) := by
  have h : Ideal.ofBits .f32 0x40000000#32 = ((2 : ℝ) : EReal) := by
    simp [Ideal.ofBits, Ideal.ieee]
    rw [← EReal.coe_mul]
    norm_num
  rw [h, Ideal.log_coe, if_neg (by norm_num)]

theorem scale_eq : Ideal.div (Ideal.rsqrt (Ideal.ofBits .f32 0x43000000#32)) (Ideal.log (Ideal.ofBits .f32 0x40000000#32))
    = (((Real.sqrt 128)⁻¹ / Real.log 2 : ℝ) : EReal) := by
  have hl : Real.log 2 ≠ 0 := (Real.log_pos (by norm_num)).ne'
  rw [rsqrt_128, log_2, Ideal.div_coe hl, ← EReal.coe_mul]
  congr 1
  ring

/-- The gated attention of the two programs, over real arrays: the query row `q`, the memory `u`, the projections' columns `wk` and column `wv`, the gate `g`. -/
theorem gated_eq (q : Fin 128 → ℝ) (u : Fin 256 → Fin 1024 → ℝ) (wk : Fin 1024 → Fin 128 → ℝ) (wv : Fin 1024 → ℝ) (g : ℝ) :
    Spec.attPost (fun n => ∑ e, ((q e : EReal) * (((Real.sqrt 128)⁻¹ / Real.log 2 : ℝ) : EReal)) * ∑ i, (u n i : EReal) * (wk i e : EReal)) (fun n => ∑ i, (u n i : EReal) * (wv i : EReal))
        * Spec.siluT (g : EReal)
      = Spec.att (fun n => (∑ e, (q e : EReal) * ∑ i, (u n i : EReal) * (wk i e : EReal)) * (((Real.sqrt 128)⁻¹ : ℝ) : EReal)) (fun n => ∑ i, (u n i : EReal) * (wv i : EReal))
        * Spec.silu (g : EReal) := by
  have es : (fun n => ∑ e, ((q e : EReal) * (((Real.sqrt 128)⁻¹ / Real.log 2 : ℝ) : EReal)) * ∑ i, (u n i : EReal) * (wk i e : EReal))
      = fun n => (((∑ e, q e * ∑ i, u n i * wk i e) * (Real.sqrt 128)⁻¹ / Real.log 2 : ℝ) : EReal) := by
    funext n
    simp only [← EReal.coe_mul, ← Spec.coe_sum]
    rw [EReal.coe_eq_coe_iff, Finset.sum_mul, Finset.sum_div]
    exact Finset.sum_congr rfl fun e _ => by ring
  have er : (fun n => (∑ e, (q e : EReal) * ∑ i, (u n i : EReal) * (wk i e : EReal)) * (((Real.sqrt 128)⁻¹ : ℝ) : EReal))
      = fun n => (((∑ e, q e * ∑ i, u n i * wk i e) * (Real.sqrt 128)⁻¹ : ℝ) : EReal) := by
    funext n
    simp only [← EReal.coe_mul, ← Spec.coe_sum]
  have ev : (fun n => ∑ i, (u n i : EReal) * (wv i : EReal)) = fun n => ((∑ i, u n i * wv i : ℝ) : EReal) := by
    funext n
    simp only [← EReal.coe_mul, ← Spec.coe_sum]
  rw [es, er, ev, Spec.siluT_eq, Spec.attPost_eq]

variable (m : (ℓ : Loc nD τ sig) → Buf (Elt Ideal) ℓ)

theorem mixed_eq (c : Dev nD) (h1 : ∀ i, ∃ r : ℝ, A1 m c i = r) (h2 : ∀ i, ∃ r : ℝ, A2 m c i = r) (h3 : ∀ i, ∃ r : ℝ, A3 m c i = r)
    (h4 : ∀ i, ∃ r : ℝ, A4 m c i = r) (h5 : ∀ i, ∃ r : ℝ, A5 m c i = r) (b : Fin 4) (p : Fin 4096) (k : Fin 512) :
    mixed m c b p k = ReferenceIdeal.Read.val_main_v24 (F := Ideal) (A1 m c) (A2 m c) (A3 m c) (A4 m c) (A5 m c) (ix3 b p k) := by
  choose r1 e1 using h1
  choose r2 e2 using h2
  choose r3 e3 using h3
  choose r4 e4 using h4
  choose r5 e5 using h5
  rw [ReferenceIdeal.Spec.om_at]
  unfold mixed
  have ec : ∀ e, ReferenceIdeal.Spec.hcol ⟨k.val / 128, by omega⟩ e = col k e := fun _ => rfl
  simp only [ReferenceIdeal.Spec.score_at, ec, scale_eq]
  simp only [rsqrt_128, e1, e2, e3, e4, e5]
  exact gated_eq (fun e => r1 (ix3 b p (col k e))) (fun n i => r3 (ix3 b n i)) (fun i e => r4 (ix2 i (col k e))) (fun i => r5 (ix2 i k)) (r2 (ix3 b p k))

theorem entry_eq (c : Dev nD) (h1 : ∀ i, ∃ r : ℝ, A1 m c i = r) (h2 : ∀ i, ∃ r : ℝ, A2 m c i = r) (h3 : ∀ i, ∃ r : ℝ, A3 m c i = r)
    (h4 : ∀ i, ∃ r : ℝ, A4 m c i = r) (h5 : ∀ i, ∃ r : ℝ, A5 m c i = r) :
    (Value.G10 m c : FVec Ideal S16384x1024 .f32)
      = ReferenceIdeal.Read.val_main_v54 (F := Ideal) (A0 m c) (A1 m c) (A2 m c) (A3 m c) (A4 m c) (A5 m c) (A6 m c) (A7 m c) (A8 m c) (A9 m c) := by
  have hN : cfg0.N = 16 := Gen.N_0
  funext i
  obtain ⟨r, j, rfl⟩ : ∃ (r : Fin 16384) (j : Fin 1024), i = ix2 r j := ⟨_, _, (ix2_eta i).symm⟩
  have ht : r.val / 1024 < cfg0.N := by omega
  rw [G10_at m c r j ⟨r.val / 1024, ht⟩ ⟨r.val % 1024, by omega⟩ (by show r.val = r.val / 1024 * 1024 + r.val % 1024; omega), outBlk_at,
    ReferenceIdeal.Spec.out_at]
  have eb : bat ⟨r.val / 1024, ht⟩ = (⟨r.val / 4096, by omega⟩ : Fin 4) := Fin.ext (by show r.val / 1024 / 4 = r.val / 4096; omega)
  have ep : pos ⟨r.val / 1024, ht⟩ ⟨r.val % 1024, by omega⟩ = (⟨r.val % 4096, by omega⟩ : Fin 4096) :=
    Fin.ext (by show r.val / 1024 % 4 * 1024 + r.val % 1024 = r.val % 4096; omega)
  rw [eb, ep]
  unfold entry
  refine Spec.norm_congr (fun l => ?_) rfl rfl j
  rw [ReferenceIdeal.Spec.y_at]
  exact Spec.resid_congr rfl (fun _ => rfl) (fun _ => rfl) (fun k => mixed_eq m c h1 h2 h3 h4 h5 _ _ k) (fun _ => rfl)

end Cert.Agree
-- ==== Proof.Acts.lean ====
module

public import Idealize.ShloMosaic.Lib.Pointwise
public import Mathlib.Data.EReal.Operations

@[expose] public section

noncomputable section

open Idealize.ShloMosaic

/-! The projection's formulas at one row and column, over the extended reals: `H` the product with the weight, `L` the gates' logarithms, `A` the rotary angles. -/

namespace Cert.Acts

/-- The sum of the last `n` rows down to row `r` that are of row `r`'s chunk of 64. -/
def psum (f : ℕ → EReal) (n r : ℕ) : EReal := ∑ i ∈ Finset.range (min n (r % 64 + 1)), f (r - i)

/-- The running sum of a chunk's logarithms. -/
def run (L : ℕ → ℕ → EReal) (r j : ℕ) : EReal := psum (fun i => L i j) 64 r

/-- One entry of a head turned by the rotary embedding: place `l` of the head that begins at column `o`. -/
def rot (H A : ℕ → ℕ → EReal) (r o l : ℕ) : EReal :=
  if l < 64 then H r (o + l) * Ideal.cos (A r l) - H r (o + l + 64) * Ideal.sin (A r l)
  else H r (o + l) * Ideal.cos (A r (l - 64)) + H r (o + l - 64) * Ideal.sin (A r (l - 64))

/-- One entry of the prepared activations. -/
def acts (H L A : ℕ → ℕ → EReal) (hs qs : EReal) (s : EReal → EReal) (r c : ℕ) : EReal :=
  if c < 512 then H r c * hs * Ideal.exp (run L r c)
  else if c < 1024 then H r c * Ideal.exp (0 - run L r (c - 512))
  else if c < 2048 then H r c
  else if c < 3072 then s (H r c)
  else if c < 3584 then H r (c - 2560) * Ideal.exp (run L (r / 64 * 64 + 63) (c - 3072) - run L r (c - 3072))
  else if c < 5120 then rot H A r (c - c % 128 - 496) (c % 128) * qs
  else if c < 5632 then rot H A r (c - c % 128 - 496) (c % 128)
  else if c < 6144 then H r (c - 496)
  else if c < 6656 then s (H r (c - 496))
  else if c < 7168 then H r (c - 496) * qs
  else s (H r (c - 496))

variable (H L A : ℕ → ℕ → EReal) (hs qs : EReal) (s : EReal → EReal) (r c : ℕ)

theorem acts_qd (h : c < 512) : acts H L A hs qs s r c = H r c * hs * Ideal.exp (run L r c) := by
  unfold acts; rw [if_pos h]
theorem acts_ki (h : 512 ≤ c ∧ c < 1024) : acts H L A hs qs s r c = H r c * Ideal.exp (0 - run L r (c - 512)) := by
  unfold acts; rw [if_neg (by omega), if_pos (by omega)]
theorem acts_gv (h : 1024 ≤ c ∧ c < 2048) : acts H L A hs qs s r c = H r c := by
  unfold acts; rw [if_neg (by omega), if_neg (by omega), if_pos (by omega)]
theorem acts_gg (h : 2048 ≤ c ∧ c < 3072) : acts H L A hs qs s r c = s (H r c) := by
  unfold acts; rw [if_neg (by omega), if_neg (by omega), if_neg (by omega), if_pos (by omega)]
theorem acts_kt (h : 3072 ≤ c ∧ c < 3584) :
    acts H L A hs qs s r c = H r (c - 2560) * Ideal.exp (run L (r / 64 * 64 + 63) (c - 3072) - run L r (c - 3072)) := by
  unfold acts; rw [if_neg (by omega), if_neg (by omega), if_neg (by omega), if_neg (by omega), if_pos (by omega)]
theorem acts_dq (h : 3584 ≤ c ∧ c < 5120) : acts H L A hs qs s r c = rot H A r (c - c % 128 - 496) (c % 128) * qs := by
  unfold acts; rw [if_neg (by omega), if_neg (by omega), if_neg (by omega), if_neg (by omega), if_neg (by omega), if_pos (by omega)]
theorem acts_dk (h : 5120 ≤ c ∧ c < 5632) : acts H L A hs qs s r c = rot H A r (c - c % 128 - 496) (c % 128) := by
  unfold acts; rw [if_neg (by omega), if_neg (by omega), if_neg (by omega), if_neg (by omega), if_neg (by omega), if_neg (by omega), if_pos (by omega)]
theorem acts_dv (h : 5632 ≤ c ∧ c < 6144) : acts H L A hs qs s r c = H r (c - 496) := by
  unfold acts
  rw [if_neg (by omega), if_neg (by omega), if_neg (by omega), if_neg (by omega), if_neg (by omega), if_neg (by omega), if_neg (by omega), if_pos (by omega)]
theorem acts_dg (h : 6144 ≤ c ∧ c < 6656) : acts H L A hs qs s r c = s (H r (c - 496)) := by
  unfold acts
  rw [if_neg (by omega), if_neg (by omega), if_neg (by omega), if_neg (by omega), if_neg (by omega), if_neg (by omega), if_neg (by omega), if_neg (by omega), if_pos (by omega)]
theorem acts_mq (h : 6656 ≤ c ∧ c < 7168) : acts H L A hs qs s r c = H r (c - 496) * qs := by
  unfold acts
  rw [if_neg (by omega), if_neg (by omega), if_neg (by omega), if_neg (by omega), if_neg (by omega), if_neg (by omega), if_neg (by omega), if_neg (by omega), if_neg (by omega),
    if_pos (by omega)]
theorem acts_mg (h : 7168 ≤ c) : acts H L A hs qs s r c = s (H r (c - 496)) := by
  unfold acts
  rw [if_neg (by omega), if_neg (by omega), if_neg (by omega), if_neg (by omega), if_neg (by omega), if_neg (by omega), if_neg (by omega), if_neg (by omega), if_neg (by omega),
    if_neg (by omega)]

theorem acts_congr {L' : ℕ → ℕ → EReal} {hs' qs' : EReal} {s' : EReal → EReal} (hL : L = L') (h1 : hs = hs') (h2 : qs = qs') (h3 : ∀ r c, s (H r c) = s' (H r c)) :
    acts H L A hs qs s r c = acts H L' A hs' qs' s' r c := by
  subst hL h1 h2
  unfold acts
  simp only [h3]

end Cert.Acts
-- ==== Proof.Scan.lean ====
module

public import proofs.«01_k».proof.Proof.Gen.Kernel2Ideal.Value
public import proofs.«01_k».proof.Proof.Acts
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel2Ideal.Own

open Cert.Kernel2Ideal Cert.Kernel2Ideal.Gen Cert.Kernel2Ideal.Value

variable {F : FTy → Type} [FloatOps F]

/-- One step of the chunks' running sums: every row takes the row `n` above it, where that row is of the same chunk. -/
def stepS (n : BitVec 32) (x : FVec F S512x512 .f32) : FVec F S512x512 .f32 :=
  addf x (select (cmpi .sge k0_pay3 (broadcast S512x512 n)) (dynamicRotate 0 n none x rotates_S512x512_d0) (broadcast S512x512 (Scalar.ofBits .f32 0x00000000#32)))

theorem scan_eq (x : FVec F S512x512 .f32) :
    k0_pay5 x k0_pay3 k0_pay4 = stepS 32#32 (stepS 16#32 (stepS 8#32 (stepS 4#32 (stepS 2#32 (stepS 1#32 x))))) := rfl

theorem mask_row (n : ℕ) (hn : n < 64) (r : ℕ) (hr : r < 512) :
    IntOp.cmpi CmpIPredicate.sge (IntOp.andi (BitVec.ofNat 32 r) 63#32) (BitVec.ofNat 32 n) = BitVec.ofBool (decide (n ≤ r % 64)) := by
  have h : ∀ n : Fin 64, ∀ r : Fin 512,
      IntOp.cmpi CmpIPredicate.sge (IntOp.andi (BitVec.ofNat 32 r.val) 63#32) (BitVec.ofNat 32 n.val) = BitVec.ofBool (decide (n.val ≤ r.val % 64)) := by
    decide +kernel
  exact h ⟨n, hn⟩ ⟨r, hr⟩

theorem step_at (n : ℕ) (hn : n < 64) (x : FVec Ideal S512x512 .f32) (r j : Fin 512) :
    stepS (F := Ideal) (BitVec.ofNat 32 n) x (ix2 r j) = x (ix2 r j) + if n ≤ r.val % 64 then x (ix2 ⟨r.val - n, by omega⟩ j) else 0 := by
  unfold stepS
  pointwise [k0_pay3]
  rw [mask_row n hn r.val r.isLt]
  congr 1
  by_cases h : n ≤ r.val % 64
  · rw [if_pos h, decide_eq_true h]
    refine congrArg (fun k => x (ix2 k j)) (Fin.ext ?_)
    show (r.val + 512 - (BitVec.ofNat 32 n).toNat % 512) % 512 = r.val - n
    rw [BitVec.toNat_ofNat]
    omega
  · rw [if_neg h, decide_eq_false h]
    rfl

/-- The rows of one column. -/
def colF (x : FVec Ideal S512x512 .f32) (j : Fin 512) (i : ℕ) : EReal := if h : i < 512 then x (ix2 ⟨i, h⟩ j) else 0

open Acts (psum)

theorem psum_double (f : ℕ → EReal) (n r : ℕ) (hn : 0 < n) :
    psum f (n + n) r = psum f n r + if n ≤ r % 64 then psum f n (r - n) else 0 := by
  unfold psum
  by_cases h : n ≤ r % 64
  · rw [if_pos h, show min (n + n) (r % 64 + 1) = n + min n ((r - n) % 64 + 1) by omega, Finset.sum_range_add, show min n (r % 64 + 1) = n by omega]
    congr 1
    exact Finset.sum_congr rfl fun i _ => by rw [Nat.sub_sub]
  · rw [if_neg h, add_zero, show min (n + n) (r % 64 + 1) = min n (r % 64 + 1) by omega]

theorem step_psum (n : ℕ) (hn : n < 64) (h0 : 0 < n) (x y : FVec Ideal S512x512 .f32) (h : ∀ r j : Fin 512, y (ix2 r j) = psum (colF x j) n r.val) (r j : Fin 512) :
    stepS (F := Ideal) (BitVec.ofNat 32 n) y (ix2 r j) = psum (colF x j) (n + n) r.val := by
  rw [step_at n hn, psum_double _ _ _ h0, h, h]

/-- The running sum of row `r`'s chunk down to row `r`. -/
theorem scan_at (x : FVec Ideal S512x512 .f32) (r j : Fin 512) :
    k0_pay5 (F := Ideal) x k0_pay3 k0_pay4 (ix2 r j) = psum (colF x j) 64 r.val := by
  have h1 : ∀ r j : Fin 512, x (ix2 r j) = psum (colF x j) 1 r.val := fun r j => by
    unfold psum
    rw [show min 1 (r.val % 64 + 1) = 1 by omega, Finset.sum_range_one, Nat.sub_zero, colF, dif_pos r.isLt]
  rw [scan_eq]
  exact step_psum 32 (by omega) (by omega) x _ (step_psum 16 (by omega) (by omega) x _ (step_psum 8 (by omega) (by omega) x _ (step_psum 4 (by omega) (by omega) x _
    (step_psum 2 (by omega) (by omega) x _ (step_psum 1 (by omega) (by omega) x _ h1))))) r j

end Cert.Kernel2Ideal.Own
-- ==== Proof.Proj.lean ====
module

public import proofs.«01_k».proof.Proof.Scan

@[expose] public section

set_option maxRecDepth 16384

noncomputable section

open Idealize.ShloMosaic Idealize.ShloMosaic.TcCoe Idealize.SL.Sem
open Idealize.ShloMosaic.Pipeline (Dat)

namespace Cert.Kernel2Ideal.Own

open Cert.Kernel2Ideal Cert.Kernel2Ideal.Gen Cert.Kernel2Ideal.Value

/-- A tile of 512 columns of the projection; scaled and decayed; divided by the decay; as it stands; through the gate; scaled for a softmax. -/
def mm (x : Vec Ideal S512x1024 .bf16) (w : Vec Ideal S1024x512 .bf16) : FVec Ideal S512x512 .f32 := k0_pay8 x w
def qd (b : FVec Ideal S512x512 .f32) (x : Vec Ideal S512x1024 .bf16) (w : Vec Ideal S1024x512 .bf16) : FVec Ideal S512x512 .bf16 := k0_pay7 b (k0_pay6 x w)
def ki (b : FVec Ideal S512x512 .f32) (x : Vec Ideal S512x1024 .bf16) (w : Vec Ideal S1024x512 .bf16) : FVec Ideal S512x512 .bf16 := k0_pay9 b x w
def plain (x : Vec Ideal S512x1024 .bf16) (w : Vec Ideal S1024x512 .bf16) : FVec Ideal S512x512 .bf16 := k0_pay34 x w
def gate (x : Vec Ideal S512x1024 .bf16) (w : Vec Ideal S1024x512 .bf16) : FVec Ideal S512x512 .bf16 := k0_pay35 x w
def scaled (x : Vec Ideal S512x1024 .bf16) (w : Vec Ideal S1024x512 .bf16) : FVec Ideal S512x512 .bf16 := k0_pay69 x w

/-- The keys of the chunk at rows `o…`, decayed from their row to the chunk's last row `l`; and the chunk's whole decay. -/
def tail (b M : FVec Ideal S512x512 .f32) (o l : ℕ) (ho : S512x512.Slices ![o, 0] S64x512) (hl : S512x512.Slices ![l, 0] S1x512) : FVec Ideal S64x512 .bf16 :=
  truncf .bf16 (mulf (extractStridedSlice S64x512 ![o, 0] M ho)
    (exp (subf (broadcastTo S64x512 (extractStridedSlice S1x512 ![l, 0] b hl) broadcasts_S1x512_S64x512) (extractStridedSlice S64x512 ![o, 0] b ho)))) bitsLt_bf16_f32
def decay (b : FVec Ideal S512x512 .f32) (l : ℕ) (hl : S512x512.Slices ![l, 0] S1x512) : FVec Ideal S8x512 .f32 :=
  broadcastTo S8x512 (shapeCast S1x512 (exp (extractStridedSlice S1x512 ![l, 0] b hl)) shapeCasts_S1x512_S1x512) broadcasts_S1x512_S8x512

/-- One head of 128 columns, at column `o` of its tile, turned by the rotary embedding; and scaled. -/
def rotK (cs sn : FVec Ideal S512x128 .f32) (M : FVec Ideal S512x512 .f32) (o : ℕ) (ho : S512x512.Slices ![0, o] S512x128) : FVec Ideal S512x128 .bf16 :=
  truncf .bf16 (addf (mulf (extractStridedSlice S512x128 ![0, o] M ho) cs)
    (mulf (dynamicRotate 1 64#32 none (extractStridedSlice S512x128 ![0, o] M ho) rotates_S512x128_d1) sn)) bitsLt_bf16_f32
def rotQ (cs sn : FVec Ideal S512x128 .f32) (M : FVec Ideal S512x512 .f32) (o : ℕ) (ho : S512x512.Slices ![0, o] S512x128) : FVec Ideal S512x128 .bf16 :=
  truncf .bf16 (mulf (addf (mulf (extractStridedSlice S512x128 ![0, o] M ho) cs)
    (mulf (dynamicRotate 1 64#32 none (extractStridedSlice S512x128 ![0, o] M ho) rotates_S512x128_d1) sn))
    (broadcast S512x128 (Named.named κ "query_scale" 0x3E0293EE#32))) bitsLt_bf16_f32

/-- The activations' block of one grid point, in its 34 pieces, over the running sums `b`, the rounded rows `x` and the tables `cs`, `sn`. -/
def block (b : FVec Ideal S512x512 .f32) (x : Vec Ideal S512x1024 .bf16) (w : Vec Ideal S1024x7296 .bf16) (cs sn : FVec Ideal S512x128 .f32) : Vec Ideal S512x7680 .bf16 :=
  View.canon (
    ⟨Rect.unit ![0, 7168] ![512, 512] inb_S512x7680_S512x512_0_7168, gate x (View.ld w (Rect.unit ![0, 6656] ![1024, 512] inb_S1024x7296_S1024x512_0_6656))⟩ ::
    ⟨Rect.unit ![0, 6656] ![512, 512] inb_S512x7680_S512x512_0_6656, scaled x (View.ld w (Rect.unit ![0, 6144] ![1024, 512] inb_S1024x7296_S1024x512_0_6144))⟩ ::
    ⟨Rect.unit ![0, 6144] ![512, 512] inb_S512x7680_S512x512_0_6144, gate x (View.ld w (Rect.unit ![0, 5632] ![1024, 512] inb_S1024x7296_S1024x512_0_5632))⟩ ::
    ⟨Rect.unit ![0, 5632] ![512, 512] inb_S512x7680_S512x512_0_5632, plain x (View.ld w (Rect.unit ![0, 5120] ![1024, 512] inb_S1024x7296_S1024x512_0_5120))⟩ ::
    ⟨Rect.unit ![0, 5504] ![512, 128] inb_S512x7680_S512x128_0_5504, rotK cs sn (mm x (View.ld w (Rect.unit ![0, 4608] ![1024, 512] inb_S1024x7296_S1024x512_0_4608))) 384 slices_S512x512_o0_384_S512x128⟩ ::
    ⟨Rect.unit ![0, 5376] ![512, 128] inb_S512x7680_S512x128_0_5376, rotK cs sn (mm x (View.ld w (Rect.unit ![0, 4608] ![1024, 512] inb_S1024x7296_S1024x512_0_4608))) 256 slices_S512x512_o0_256_S512x128⟩ ::
    ⟨Rect.unit ![0, 5248] ![512, 128] inb_S512x7680_S512x128_0_5248, rotK cs sn (mm x (View.ld w (Rect.unit ![0, 4608] ![1024, 512] inb_S1024x7296_S1024x512_0_4608))) 128 slices_S512x512_o0_128_S512x128⟩ ::
    ⟨Rect.unit ![0, 5120] ![512, 128] inb_S512x7680_S512x128_0_5120, rotK cs sn (mm x (View.ld w (Rect.unit ![0, 4608] ![1024, 512] inb_S1024x7296_S1024x512_0_4608))) 0 slices_S512x512_o0_0_S512x128⟩ ::
    ⟨Rect.unit ![0, 4992] ![512, 128] inb_S512x7680_S512x128_0_4992, rotQ cs sn (mm x (View.ld w (Rect.unit ![0, 4096] ![1024, 512] inb_S1024x7296_S1024x512_0_4096))) 384 slices_S512x512_o0_384_S512x128⟩ ::
    ⟨Rect.unit ![0, 4864] ![512, 128] inb_S512x7680_S512x128_0_4864, rotQ cs sn (mm x (View.ld w (Rect.unit ![0, 4096] ![1024, 512] inb_S1024x7296_S1024x512_0_4096))) 256 slices_S512x512_o0_256_S512x128⟩ ::
    ⟨Rect.unit ![0, 4736] ![512, 128] inb_S512x7680_S512x128_0_4736, rotQ cs sn (mm x (View.ld w (Rect.unit ![0, 4096] ![1024, 512] inb_S1024x7296_S1024x512_0_4096))) 128 slices_S512x512_o0_128_S512x128⟩ ::
    ⟨Rect.unit ![0, 4608] ![512, 128] inb_S512x7680_S512x128_0_4608, rotQ cs sn (mm x (View.ld w (Rect.unit ![0, 4096] ![1024, 512] inb_S1024x7296_S1024x512_0_4096))) 0 slices_S512x512_o0_0_S512x128⟩ ::
    ⟨Rect.unit ![0, 4480] ![512, 128] inb_S512x7680_S512x128_0_4480, rotQ cs sn (mm x (View.ld w (Rect.unit ![0, 3584] ![1024, 512] inb_S1024x7296_S1024x512_0_3584))) 384 slices_S512x512_o0_384_S512x128⟩ ::
    ⟨Rect.unit ![0, 4352] ![512, 128] inb_S512x7680_S512x128_0_4352, rotQ cs sn (mm x (View.ld w (Rect.unit ![0, 3584] ![1024, 512] inb_S1024x7296_S1024x512_0_3584))) 256 slices_S512x512_o0_256_S512x128⟩ ::
    ⟨Rect.unit ![0, 4224] ![512, 128] inb_S512x7680_S512x128_0_4224, rotQ cs sn (mm x (View.ld w (Rect.unit ![0, 3584] ![1024, 512] inb_S1024x7296_S1024x512_0_3584))) 128 slices_S512x512_o0_128_S512x128⟩ ::
    ⟨Rect.unit ![0, 4096] ![512, 128] inb_S512x7680_S512x128_0_4096, rotQ cs sn (mm x (View.ld w (Rect.unit ![0, 3584] ![1024, 512] inb_S1024x7296_S1024x512_0_3584))) 0 slices_S512x512_o0_0_S512x128⟩ ::
    ⟨Rect.unit ![0, 3968] ![512, 128] inb_S512x7680_S512x128_0_3968, rotQ cs sn (mm x (View.ld w (Rect.unit ![0, 3072] ![1024, 512] inb_S1024x7296_S1024x512_0_3072))) 384 slices_S512x512_o0_384_S512x128⟩ ::
    ⟨Rect.unit ![0, 3840] ![512, 128] inb_S512x7680_S512x128_0_3840, rotQ cs sn (mm x (View.ld w (Rect.unit ![0, 3072] ![1024, 512] inb_S1024x7296_S1024x512_0_3072))) 256 slices_S512x512_o0_256_S512x128⟩ ::
    ⟨Rect.unit ![0, 3712] ![512, 128] inb_S512x7680_S512x128_0_3712, rotQ cs sn (mm x (View.ld w (Rect.unit ![0, 3072] ![1024, 512] inb_S1024x7296_S1024x512_0_3072))) 128 slices_S512x512_o0_128_S512x128⟩ ::
    ⟨Rect.unit ![0, 3584] ![512, 128] inb_S512x7680_S512x128_0_3584, rotQ cs sn (mm x (View.ld w (Rect.unit ![0, 3072] ![1024, 512] inb_S1024x7296_S1024x512_0_3072))) 0 slices_S512x512_o0_0_S512x128⟩ ::
    ⟨Rect.unit ![0, 2560] ![512, 512] inb_S512x7680_S512x512_0_2560, gate x (View.ld w (Rect.unit ![0, 2560] ![1024, 512] inb_S1024x7296_S1024x512_0_2560))⟩ ::
    ⟨Rect.unit ![0, 1536] ![512, 512] inb_S512x7680_S512x512_0_1536, plain x (View.ld w (Rect.unit ![0, 1536] ![1024, 512] inb_S1024x7296_S1024x512_0_1536))⟩ ::
    ⟨Rect.unit ![0, 2048] ![512, 512] inb_S512x7680_S512x512_0_2048, gate x (View.ld w (Rect.unit ![0, 2048] ![1024, 512] inb_S1024x7296_S1024x512_0_2048))⟩ ::
    ⟨Rect.unit ![0, 1024] ![512, 512] inb_S512x7680_S512x512_0_1024, plain x (View.ld w (Rect.unit ![0, 1024] ![1024, 512] inb_S1024x7296_S1024x512_0_1024))⟩ ::
    ⟨Rect.unit ![448, 3072] ![64, 512] inb_S512x7680_S64x512_448_3072, tail b (mm x (View.ld w (Rect.unit ![0, 512] ![1024, 512] inb_S1024x7296_S1024x512_0_512))) 448 511 slices_S512x512_o448_0_S64x512 slices_S512x512_o511_0_S1x512⟩ ::
    ⟨Rect.unit ![384, 3072] ![64, 512] inb_S512x7680_S64x512_384_3072, tail b (mm x (View.ld w (Rect.unit ![0, 512] ![1024, 512] inb_S1024x7296_S1024x512_0_512))) 384 447 slices_S512x512_o384_0_S64x512 slices_S512x512_o447_0_S1x512⟩ ::
    ⟨Rect.unit ![320, 3072] ![64, 512] inb_S512x7680_S64x512_320_3072, tail b (mm x (View.ld w (Rect.unit ![0, 512] ![1024, 512] inb_S1024x7296_S1024x512_0_512))) 320 383 slices_S512x512_o320_0_S64x512 slices_S512x512_o383_0_S1x512⟩ ::
    ⟨Rect.unit ![256, 3072] ![64, 512] inb_S512x7680_S64x512_256_3072, tail b (mm x (View.ld w (Rect.unit ![0, 512] ![1024, 512] inb_S1024x7296_S1024x512_0_512))) 256 319 slices_S512x512_o256_0_S64x512 slices_S512x512_o319_0_S1x512⟩ ::
    ⟨Rect.unit ![192, 3072] ![64, 512] inb_S512x7680_S64x512_192_3072, tail b (mm x (View.ld w (Rect.unit ![0, 512] ![1024, 512] inb_S1024x7296_S1024x512_0_512))) 192 255 slices_S512x512_o192_0_S64x512 slices_S512x512_o255_0_S1x512⟩ ::
    ⟨Rect.unit ![128, 3072] ![64, 512] inb_S512x7680_S64x512_128_3072, tail b (mm x (View.ld w (Rect.unit ![0, 512] ![1024, 512] inb_S1024x7296_S1024x512_0_512))) 128 191 slices_S512x512_o128_0_S64x512 slices_S512x512_o191_0_S1x512⟩ ::
    ⟨Rect.unit ![64, 3072] ![64, 512] inb_S512x7680_S64x512_64_3072, tail b (mm x (View.ld w (Rect.unit ![0, 512] ![1024, 512] inb_S1024x7296_S1024x512_0_512))) 64 127 slices_S512x512_o64_0_S64x512 slices_S512x512_o127_0_S1x512⟩ ::
    ⟨Rect.unit ![0, 3072] ![64, 512] inb_S512x7680_S64x512_0_3072, tail b (mm x (View.ld w (Rect.unit ![0, 512] ![1024, 512] inb_S1024x7296_S1024x512_0_512))) 0 63 slices_S512x512_o0_0_S64x512 slices_S512x512_o63_0_S1x512⟩ ::
    ⟨Rect.unit ![0, 512] ![512, 512] inb_S512x7680_S512x512_0_512, ki b x (View.ld w (Rect.unit ![0, 512] ![1024, 512] inb_S1024x7296_S1024x512_0_512))⟩ ::
    ⟨Rect.unit ![0, 0] ![512, 512] inb_S512x7680_S512x512_0_0, qd b x (View.ld w (Rect.unit ![0, 0] ![1024, 512] inb_S1024x7296_S1024x512_0_0))⟩ :: [])

/-- The decays' block of one grid point, eight rows alike for each chunk. -/
def decays (b : FVec Ideal S512x512 .f32) : Vec Ideal S64x512 .f32 :=
  View.canon [
    ⟨Rect.unit ![56, 0] ![8, 512] inb_S64x512_S8x512_56_0, decay b 511 slices_S512x512_o511_0_S1x512⟩,
    ⟨Rect.unit ![48, 0] ![8, 512] inb_S64x512_S8x512_48_0, decay b 447 slices_S512x512_o447_0_S1x512⟩,
    ⟨Rect.unit ![40, 0] ![8, 512] inb_S64x512_S8x512_40_0, decay b 383 slices_S512x512_o383_0_S1x512⟩,
    ⟨Rect.unit ![32, 0] ![8, 512] inb_S64x512_S8x512_32_0, decay b 319 slices_S512x512_o319_0_S1x512⟩,
    ⟨Rect.unit ![24, 0] ![8, 512] inb_S64x512_S8x512_24_0, decay b 255 slices_S512x512_o255_0_S1x512⟩,
    ⟨Rect.unit ![16, 0] ![8, 512] inb_S64x512_S8x512_16_0, decay b 191 slices_S512x512_o191_0_S1x512⟩,
    ⟨Rect.unit ![8, 0] ![8, 512] inb_S64x512_S8x512_8_0, decay b 127 slices_S512x512_o127_0_S1x512⟩,
    ⟨Rect.unit ![0, 0] ![8, 512] inb_S64x512_S8x512_0_0, decay b 63 slices_S512x512_o63_0_S1x512⟩]

/-- The running sums of the gates of one block. -/
def sums (x : Vec Ideal S512x1024 .f32) (w : Vec Ideal S1024x7296 .bf16) (g : Vec Ideal S128x512 .bf16) (a : Vec Ideal S1x512 .f32) : FVec Ideal S512x512 .f32 :=
  k0_pay5 (k0_pay2 (k0_pay1 x) (View.ld w (Rect.unit ![0, 7168] ![1024, 128] inb_S1024x7296_S1024x128_0_7168)) g a) k0_pay3 k0_pay4

/-- The rotary tables of one block. -/
def cosT (p : Vec Ideal S256x128 .f32) (r : Vec Ideal S2x128 .f32) : FVec Ideal S512x128 .f32 :=
  k0_pay42 p (View.ld r (Rect.unit ![0, 0] ![1, 128] inb_S2x128_S1x128_0_0))
def sinT (p : Vec Ideal S256x128 .f32) (r : Vec Ideal S2x128 .f32) : FVec Ideal S512x128 .f32 :=
  k0_pay43 p (View.ld r (Rect.unit ![0, 0] ![1, 128] inb_S2x128_S1x128_0_0)) (View.ld r (Rect.unit ![1, 0] ![1, 128] inb_S2x128_S1x128_1_0))

variable (m : (ℓ : Loc nD τ sig) → Buf (Elt Ideal) ℓ)

theorem out6 (c : Dev nD) (t : Fin cfg0.N) :
    out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
        (ms0_6 t) (hs0_6 t) (ms0_7 t) (hs0_7 t) scM0_0 (Memref.isWhole_whole _) (iblk m c 0 t) (iblk m c 1 t) (iblk m c 2 t) (iblk m c 3 t) (iblk m c 4 t) (iblk m c 5 t)
      = block (sums (iblk m c 0 t) (iblk m c 1 t) (iblk m c 2 t) (iblk m c 3 t)) (k0_pay1 (iblk m c 0 t)) (iblk m c 1 t)
          (cosT (iblk m c 4 t) (iblk m c 5 t)) (sinT (iblk m c 4 t) (iblk m c 5 t)) := by
  frame_out
  rfl

theorem out7 (c : Dev nD) (t : Fin cfg0.N) :
    out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
        (ms0_6 t) (hs0_6 t) (ms0_7 t) (hs0_7 t) scM0_0 (Memref.isWhole_whole _) (iblk m c 0 t) (iblk m c 1 t) (iblk m c 2 t) (iblk m c 3 t) (iblk m c 4 t) (iblk m c 5 t)
      = decays (sums (iblk m c 0 t) (iblk m c 1 t) (iblk m c 2 t) (iblk m c 3 t)) := by
  frame_out
  rfl

end Cert.Kernel2Ideal.Own
-- ==== Proof.ProjAt.lean ====
module

public import proofs.«01_k».proof.Proof.Proj

@[expose] public section

set_option maxRecDepth 16384

noncomputable section

open Idealize.ShloMosaic Idealize.ShloMosaic.TcCoe Idealize.SL.Sem
open Idealize.ShloMosaic.Pipeline (Dat)

namespace Cert.Kernel2Ideal.Own

open Cert.Kernel2Ideal Cert.Kernel2Ideal.Gen Cert.Kernel2Ideal.Value
open Acts (acts run rot)

/-- The gate written with the hyperbolic tangent; the logarithm of the decay gate; the two scales, by name. -/
def siluT (x : EReal) : EReal :=
  Ideal.ofBits .f32 0x3F000000#32 * x + Ideal.ofBits .f32 0x3F000000#32 * x * Ideal.tanh (Ideal.ofBits .f32 0x3F000000#32 * x)
def lg (z : EReal) : EReal :=
  (0 - (max (0 - z) 0 + Ideal.log1p (Ideal.exp (0 - FloatOps.absf (F := Ideal) (φ := .f32) (0 - z))))) * Ideal.ofBits .f32 0x3D800000#32
def hs : EReal := Named.named (F := Ideal) (φ := .f32) κ "head_scale" 0x3DB504F3#32
def qs : EReal := Named.named (F := Ideal) (φ := .f32) κ "query_scale" 0x3E0293EE#32

section Pieces

variable (b M : FVec Ideal S512x512 .f32) (x : Vec Ideal S512x1024 .bf16) (w : Vec Ideal S1024x512 .bf16) (cs sn : FVec Ideal S512x128 .f32)

theorem mm_at (r j : Fin 512) : mm x w (ix2 r j) = ∑ k : Fin 1024, x (ix2 r k) * w (ix2 k j) := by
  unfold mm
  open_payloads
  pointwise

theorem qd_at (r j : Fin 512) : qd b x w (ix2 r j) = (∑ k : Fin 1024, x (ix2 r k) * w (ix2 k j)) * hs * Ideal.exp (b (ix2 r j)) := by
  unfold qd
  open_payloads
  pointwise
  rfl

theorem ki_at (r j : Fin 512) : ki b x w (ix2 r j) = (∑ k : Fin 1024, x (ix2 r k) * w (ix2 k j)) * Ideal.exp (0 - b (ix2 r j)) := by
  unfold ki
  open_payloads
  pointwise

theorem plain_at (r j : Fin 512) : plain x w (ix2 r j) = ∑ k : Fin 1024, x (ix2 r k) * w (ix2 k j) := by
  unfold plain
  open_payloads
  pointwise

theorem gate_at (r j : Fin 512) : gate x w (ix2 r j) = siluT (∑ k : Fin 1024, x (ix2 r k) * w (ix2 k j)) := by
  unfold gate
  open_payloads
  pointwise
  rfl

theorem scaled_at (r j : Fin 512) : scaled x w (ix2 r j) = (∑ k : Fin 1024, x (ix2 r k) * w (ix2 k j)) * qs := by
  unfold scaled
  open_payloads
  pointwise
  rfl

theorem tail_at (o l : ℕ) (ho) (hl) (r : Fin 64) (j : Fin 512) (h1 : o + r.val < 512) (h2 : l < 512) :
    tail b M o l ho hl (ix2 r j) = M (ix2 ⟨o + r.val, h1⟩ j) * Ideal.exp (b (ix2 ⟨l, h2⟩ j) - b (ix2 ⟨o + r.val, h1⟩ j)) := by
  unfold tail
  pointwise

theorem decay_at (l : ℕ) (hl) (r : Fin 8) (j : Fin 512) (h2 : l < 512) : decay b l hl (ix2 r j) = Ideal.exp (b (ix2 ⟨l, h2⟩ j)) := by
  unfold decay
  pointwise

theorem rotK_at (o : ℕ) (ho) (r : Fin 512) (j : Fin 128) (h1 : o + 128 ≤ 512) :
    rotK cs sn M o ho (ix2 r j)
      = M (ix2 r ⟨o + j.val, by omega⟩) * cs (ix2 r j) + M (ix2 r ⟨o + (j.val + 128 - 64) % 128, by omega⟩) * sn (ix2 r j) := by
  unfold rotK
  pointwise

theorem rotQ_at (o : ℕ) (ho) (r : Fin 512) (j : Fin 128) (h1 : o + 128 ≤ 512) :
    rotQ cs sn M o ho (ix2 r j)
      = (M (ix2 r ⟨o + j.val, by omega⟩) * cs (ix2 r j) + M (ix2 r ⟨o + (j.val + 128 - 64) % 128, by omega⟩) * sn (ix2 r j)) * qs := by
  unfold rotQ
  pointwise
  rfl

theorem xb_at (x : Vec Ideal S512x1024 .f32) (r : Fin 512) (j : Fin 1024) : k0_pay1 (F := Ideal) x (ix2 r j) = x (ix2 r j) := by
  open_payloads
  pointwise

theorem gates_at (g : Vec Ideal S128x512 .bf16) (a : Vec Ideal S1x512 .f32) (v : Vec Ideal S1024x128 .bf16) (r j : Fin 512) :
    k0_pay2 (F := Ideal) x v g a (ix2 r j) = lg ((∑ q : Fin 128, (∑ k : Fin 1024, x (ix2 r k) * v (ix2 k q)) * g (ix2 q j)) + a (ix2 0 j)) := by
  open_payloads
  pointwise
  rfl

end Pieces

theorem ld_at {N M n k : ℕ} {φ : EltTy} (X : Vec Ideal ⟨2, ![N, M]⟩ φ) (p q : ℕ) (inb) (i : Fin n) (j : Fin k) (i' : Fin N) (j' : Fin M)
    (hi : i'.val = p + i.val) (hj : j'.val = q + j.val) :
    (View.ld X (Rect.unit ![p, q] ![n, k] inb) : Vec Ideal ⟨2, ![n, k]⟩ φ) (ix2 i j) = X (ix2 i' j') := by
  rw [View.ld_apply]
  congr 1
  funext a
  apply Fin.ext
  rw [Rect.idx_unit_val]
  fin_cases a
  · exact hi.symm
  · exact hj.symm

/-- The column of the model's weight that column `c` of the laid-out weight holds. -/
def wcol (c : ℕ) : ℕ := if c < 3072 then c else c + 16

section Block

variable (H L A : ℕ → ℕ → EReal) (s : ℕ) (hs64 : s % 64 = 0)
  (b : FVec Ideal S512x512 .f32) (x : Vec Ideal S512x1024 .bf16) (w : Vec Ideal S1024x7296 .bf16) (cs sn : FVec Ideal S512x128 .f32)
  (hM : ∀ (r : Fin 512) (c : Fin 7296), c.val < 7168 → (∑ k : Fin 1024, x (ix2 r k) * w (ix2 k c)) = H (s + r.val) (wcol c.val))
  (hb : ∀ r j : Fin 512, b (ix2 r j) = run L (s + r.val) j.val)
  (hc : ∀ (r : Fin 512) (l : Fin 128), cs (ix2 r l) = Ideal.cos (A (s + r.val) (l.val % 64)))
  (hn : ∀ (r : Fin 512) (l : Fin 128), sn (ix2 r l) = Ideal.sin (A (s + r.val) (l.val % 64)) * (if l.val < 64 then -1 else 1))

include hM in
theorem sum_at (o : ℕ) (inb) (r j : Fin 512) (ho : o + 512 ≤ 7168) :
    (∑ k : Fin 1024, x (ix2 r k) * (View.ld w (Rect.unit ![0, o] ![1024, 512] inb) : Vec Ideal S1024x512 .bf16) (ix2 k j)) = H (s + r.val) (wcol (o + j.val)) := by
  rw [← hM r ⟨o + j.val, by omega⟩ (by show o + j.val < 7168; omega)]
  exact Finset.sum_congr rfl fun k _ => congrArg (x (ix2 r k) * ·) (ld_at w 0 o inb k j k ⟨o + j.val, by omega⟩ (Nat.zero_add _).symm rfl)

include hc hn in
/-- A head turned in the kernel's way is the head turned. -/
theorem turn (r : Fin 512) (l : Fin 128) (o : ℕ) :
    H (s + r.val) (o + l.val) * cs (ix2 r l) + H (s + r.val) (o + (l.val + 128 - 64) % 128) * sn (ix2 r l) = rot H A (s + r.val) o l.val := by
  unfold rot
  rw [hc, hn]
  by_cases h : l.val < 64
  · rw [if_pos h, if_pos h, Nat.mod_eq_of_lt h, show (l.val + 128 - 64) % 128 = l.val + 64 by omega, mul_neg, mul_one, mul_neg, ← sub_eq_add_neg, Nat.add_assoc]
  · rw [if_neg h, if_neg h, mul_one, show l.val % 64 = l.val - 64 by omega, show (l.val + 128 - 64) % 128 = l.val - 64 by omega, show o + (l.val - 64) = o + l.val - 64 by omega]

include hM in
theorem plain_p (o C : ℕ) (inb) (r j : Fin 512) (ho : o + 512 ≤ 7168) (hC : wcol (o + j.val) = C) :
    plain x (View.ld w (Rect.unit ![0, o] ![1024, 512] inb)) (ix2 r j) = H (s + r.val) C := by
  rw [plain_at, sum_at H s x w hM o inb r j ho, hC]

include hM in
theorem mm_p (o C : ℕ) (inb) (r j : Fin 512) (ho : o + 512 ≤ 7168) (hC : wcol (o + j.val) = C) :
    mm x (View.ld w (Rect.unit ![0, o] ![1024, 512] inb)) (ix2 r j) = H (s + r.val) C := by
  rw [mm_at, sum_at H s x w hM o inb r j ho, hC]

include hM in
theorem gate_p (o C : ℕ) (inb) (r j : Fin 512) (ho : o + 512 ≤ 7168) (hC : wcol (o + j.val) = C) :
    gate x (View.ld w (Rect.unit ![0, o] ![1024, 512] inb)) (ix2 r j) = siluT (H (s + r.val) C) := by
  rw [gate_at, sum_at H s x w hM o inb r j ho, hC]

include hM in
theorem scaled_p (o C : ℕ) (inb) (r j : Fin 512) (ho : o + 512 ≤ 7168) (hC : wcol (o + j.val) = C) :
    scaled x (View.ld w (Rect.unit ![0, o] ![1024, 512] inb)) (ix2 r j) = H (s + r.val) C * qs := by
  rw [scaled_at, sum_at H s x w hM o inb r j ho, hC]

include hM hb in
theorem qd_p (o C : ℕ) (inb) (r j : Fin 512) (ho : o + 512 ≤ 7168) (hC : wcol (o + j.val) = C) (hj : C = j.val) :
    qd b x (View.ld w (Rect.unit ![0, o] ![1024, 512] inb)) (ix2 r j) = H (s + r.val) C * hs * Ideal.exp (run L (s + r.val) C) := by
  rw [qd_at, sum_at H s x w hM o inb r j ho, hC, hb, hj]

include hM hb in
theorem ki_p (o C D : ℕ) (inb) (r j : Fin 512) (ho : o + 512 ≤ 7168) (hC : wcol (o + j.val) = C) (hD : j.val = D) :
    ki b x (View.ld w (Rect.unit ![0, o] ![1024, 512] inb)) (ix2 r j) = H (s + r.val) C * Ideal.exp (0 - run L (s + r.val) D) := by
  rw [ki_at, sum_at H s x w hM o inb r j ho, hC, hb, hD]

include hM hb in
theorem tail_p (o C D R R' : ℕ) (inb) (p l : ℕ) (hp) (hl) (r : Fin 64) (j : Fin 512) (h1 : p + r.val < 512) (h2 : l < 512) (ho : o + 512 ≤ 7168)
    (hC : wcol (o + j.val) = C) (hD : j.val = D) (hR : s + (p + r.val) = R) (hR' : s + l = R') :
    tail b (mm x (View.ld w (Rect.unit ![0, o] ![1024, 512] inb))) p l hp hl (ix2 r j) = H R C * Ideal.exp (run L R' D - run L R D) := by
  rw [tail_at b _ p l hp hl r j h1 h2, mm_p H s x w hM o C inb _ j ho hC, hb, hb, hD]
  subst hR hR'
  rfl

include hM hc hn in
theorem rotK_p (o O D : ℕ) (inb) (p : ℕ) (hp) (r : Fin 512) (l : Fin 128) (h1 : p + 128 ≤ 512) (h2 : 3072 ≤ o) (ho : o + 512 ≤ 7168)
    (hO : o + p + 16 = O) (hD : l.val = D) :
    rotK cs sn (mm x (View.ld w (Rect.unit ![0, o] ![1024, 512] inb))) p hp (ix2 r l) = rot H A (s + r.val) O D := by
  subst hO hD
  have hl := l.isLt
  rw [rotK_at _ cs sn p hp r l h1, mm_p H s x w hM o (o + p + 16 + l.val) inb r _ ho (by show wcol (o + (p + l.val)) = _; unfold wcol; split <;> omega),
    mm_p H s x w hM o (o + p + 16 + (l.val + 128 - 64) % 128) inb r _ ho (by show wcol (o + (p + (l.val + 128 - 64) % 128)) = _; unfold wcol; split <;> omega)]
  exact turn H A s cs sn hc hn r l _

include hM hc hn in
theorem rotQ_p (o O D : ℕ) (inb) (p : ℕ) (hp) (r : Fin 512) (l : Fin 128) (h1 : p + 128 ≤ 512) (h2 : 3072 ≤ o) (ho : o + 512 ≤ 7168)
    (hO : o + p + 16 = O) (hD : l.val = D) :
    rotQ cs sn (mm x (View.ld w (Rect.unit ![0, o] ![1024, 512] inb))) p hp (ix2 r l) = rot H A (s + r.val) O D * qs := by
  rw [← rotK_p H A s x w cs sn hM hc hn o O D inb p hp r l h1 h2 ho hO hD, rotK_at _ cs sn p hp r l h1, rotQ_at _ cs sn p hp r l h1]

include hs64 hM hb hc hn in
theorem block_at (r : Fin 512) (c : Fin 7680) : block b x w cs sn (ix2 r c) = acts H L A hs qs siluT (s + r.val) c.val := by
  unfold block
  canon_tiles y h using View.cover_of_tiledBy _ ![64, 128] (by sl_kernel_rfl) _
  all_goals
    obtain ⟨r', j, rfl⟩ : ∃ r' j, y = ix2 r' j := ⟨_, _, (ix2_eta y).symm⟩
    change (r : ℕ) = _ at h0
    change (c : ℕ) = _ at h1
    have hj := j.isLt
    have hr := r'.isLt
    change j.val < _ at hj
    change r'.val < _ at hr
    have e0 : ((ix2 r' j 0 : Fin _) : ℕ) = r'.val := rfl
    have e1 : ((ix2 r' j 1 : Fin _) : ℕ) = j.val := rfl
    rw [e0] at h0
    rw [e1] at h1
    rw [h0, h1]
    clear h0 h1
  all_goals first
    | (rw [Acts.acts_qd _ _ _ _ _ _ _ _ (by omega)]; exact qd_p H L s b x w hM hb _ _ _ _ _ (by omega) (by unfold wcol; split <;> omega) (by omega))
    | (rw [Acts.acts_ki _ _ _ _ _ _ _ _ (by omega)]; exact ki_p H L s b x w hM hb _ _ _ _ _ _ (by omega) (by unfold wcol; split <;> omega) (by omega))
    | (rw [Acts.acts_gv _ _ _ _ _ _ _ _ (by omega)]; exact plain_p H s x w hM _ _ _ _ _ (by omega) (by unfold wcol; split <;> omega))
    | (rw [Acts.acts_gg _ _ _ _ _ _ _ _ (by omega)]; exact gate_p H s x w hM _ _ _ _ _ (by omega) (by unfold wcol; split <;> omega))
    | (rw [Acts.acts_kt _ _ _ _ _ _ _ _ (by omega)]
       exact tail_p H L s b x w hM hb _ _ _ _ _ _ _ _ _ _ _ _ (by omega) (by omega) (by omega) (by unfold wcol; split <;> omega) (by omega) (by omega) (by omega))
    | (rw [Acts.acts_dq _ _ _ _ _ _ _ _ (by omega)]
       exact rotQ_p H A s x w cs sn hM hc hn _ _ _ _ _ _ _ _ (by omega) (by omega) (by omega) (by omega) (by omega))
    | (rw [Acts.acts_dk _ _ _ _ _ _ _ _ (by omega)]
       exact rotK_p H A s x w cs sn hM hc hn _ _ _ _ _ _ _ _ (by omega) (by omega) (by omega) (by omega) (by omega))
    | (rw [Acts.acts_dv _ _ _ _ _ _ _ _ (by omega)]; exact plain_p H s x w hM _ _ _ _ _ (by omega) (by unfold wcol; split <;> omega))
    | (rw [Acts.acts_dg _ _ _ _ _ _ _ _ (by omega)]; exact gate_p H s x w hM _ _ _ _ _ (by omega) (by unfold wcol; split <;> omega))
    | (rw [Acts.acts_mq _ _ _ _ _ _ _ _ (by omega)]; exact scaled_p H s x w hM _ _ _ _ _ (by omega) (by unfold wcol; split <;> omega))
    | (rw [Acts.acts_mg _ _ _ _ _ _ _ _ (by omega)]; exact gate_p H s x w hM _ _ _ _ _ (by omega) (by unfold wcol; split <;> omega))

include hs64 hb in
theorem decays_at (r : Fin 64) (j : Fin 512) : decays b (ix2 r j) = Ideal.exp (run L (s + (r.val / 8 * 64 + 63)) j.val) := by
  unfold decays
  canon_tiles y h
  all_goals
    obtain ⟨r', j', rfl⟩ : ∃ r' j, y = ix2 r' j := ⟨_, _, (ix2_eta y).symm⟩
    change (r : ℕ) = _ at h0
    change (j : ℕ) = _ at h1
    have hr := r'.isLt
    change r'.val < _ at hr
    refine (decay_at b _ _ r' j' (by omega)).trans ?_
    rw [hb]
    refine congrArg Ideal.exp (congrArg₂ (run L) ?_ h1.symm)
    dsimp only
    omega

end Block

/-- The gates' running sums of one block, over whole rows. -/
theorem sums_at (L : ℕ → ℕ → EReal) (s : ℕ) (hs64 : s % 64 = 0) (x : Vec Ideal S512x1024 .f32) (w : Vec Ideal S1024x7296 .bf16) (g : Vec Ideal S128x512 .bf16) (a : Vec Ideal S1x512 .f32)
    (hL : ∀ r j : Fin 512, lg ((∑ q : Fin 128, (∑ k : Fin 1024, x (ix2 r k) * w (ix2 k ⟨7168 + q.val, by omega⟩)) * g (ix2 q j)) + a (ix2 0 j)) = L (s + r.val) j.val) (r j : Fin 512) :
    sums x w g a (ix2 r j) = run L (s + r.val) j.val := by
  unfold sums
  rw [scan_at]
  unfold run Acts.psum
  rw [show (s + r.val) % 64 = r.val % 64 by omega]
  refine Finset.sum_congr rfl fun i hi => ?_
  have hi' := Finset.mem_range.1 hi
  have hr := r.isLt
  unfold colF
  rw [dif_pos (by omega), gates_at, show s + r.val - i = s + (r.val - i) by omega]
  refine Eq.trans (congrArg lg (congrArg (· + a (ix2 0 j)) (Finset.sum_congr rfl fun q _ => congrArg (· * g (ix2 q j)) (Finset.sum_congr rfl fun k _ => ?_)))) (hL ⟨r.val - i, by omega⟩ j)
  rw [xb_at]
  exact congrArg (_ * ·) (ld_at w 0 7168 _ k q k ⟨7168 + q.val, by omega⟩ (Nat.zero_add _).symm rfl)

end Cert.Kernel2Ideal.Own
-- ==== Proof.Hidden.lean ====
module

public import Idealize.ShloMosaic.Lib.Pointwise
public import Mathlib.Data.EReal.Operations

@[expose] public section

noncomputable section

open Idealize.ShloMosaic

/-! What both programs of the projection compute first, from their arguments: the product with the weight, the gates' arguments, the rotary angles. Rows are counted through the batch. -/

namespace Cert.Hidden

/-- The product with the weight. -/
def hidden (x : FVec Ideal ⟨3, ![4, 4096, 1024]⟩ .f32) (w : FVec Ideal ⟨2, ![1024, 7184]⟩ .f32) (r c : ℕ) : EReal :=
  if h : r < 16384 ∧ c < 7184 then ∑ k : Fin 1024, x (ix3 ⟨r / 4096, by omega⟩ ⟨r % 4096, by omega⟩ k) * w (ix2 k ⟨c, h.2⟩) else 0

theorem hidden_of (x : FVec Ideal ⟨3, ![4, 4096, 1024]⟩ .f32) (w : FVec Ideal ⟨2, ![1024, 7184]⟩ .f32) (r c : ℕ) (a : Fin 4) (b : Fin 4096) (d : Fin 7184)
    (hr : r = a.val * 4096 + b.val) (hc : c = d.val) : hidden x w r c = ∑ k : Fin 1024, x (ix3 a b k) * w (ix2 k d) := by
  subst hr hc
  unfold hidden
  have ha := a.isLt
  have hb := b.isLt
  rw [dif_pos ⟨by omega, d.isLt⟩]
  have ea : (⟨(a.val * 4096 + b.val) / 4096, by omega⟩ : Fin 4) = a := Fin.ext (by show (a.val * 4096 + b.val) / 4096 = a.val; omega)
  have eb : (⟨(a.val * 4096 + b.val) % 4096, by omega⟩ : Fin 4096) = b := Fin.ext (by show (a.val * 4096 + b.val) % 4096 = b.val; omega)
  rw [ea, eb]

/-- The argument of the decay gate. -/
def gate (x : FVec Ideal ⟨3, ![4, 4096, 1024]⟩ .f32) (w : FVec Ideal ⟨2, ![1024, 7184]⟩ .f32) (g : FVec Ideal ⟨2, ![16, 512]⟩ .f32) (b : FVec Ideal ⟨1, ![512]⟩ .f32) (r j : ℕ) : EReal :=
  if h : j < 512 then (∑ q : Fin 16, hidden x w r (3072 + q.val) * g (ix2 q ⟨j, h⟩)) + b (ix1 ⟨j, h⟩) else 0

/-- The rotary embedding's frequencies, and its angles. -/
def freq (l : ℕ) : EReal :=
  Ideal.div 1 (Ideal.pow (Ideal.ofBits FTy.f32 0x461C4000#32)
    (Ideal.div (Ideal.ofBits FTy.f32 0x40000000#32 * FloatOps.sitofp (F := Ideal) FTy.f32 (BitVec.ofNat 32 l)) (Ideal.ofBits FTy.f32 0x43000000#32)))
def angle (p : IVec ⟨2, ![4, 4096]⟩ 32) (r l : ℕ) : EReal :=
  if h : r < 16384 then FloatOps.sitofp (F := Ideal) FTy.f32 (p (ix2 ⟨r / 4096, by omega⟩ ⟨r % 4096, by omega⟩)) * freq l else 0

theorem angle_of (p : IVec ⟨2, ![4, 4096]⟩ 32) (r l : ℕ) (a : Fin 4) (b : Fin 4096) (hr : r = a.val * 4096 + b.val) :
    angle p r l = FloatOps.sitofp (F := Ideal) FTy.f32 (p (ix2 a b)) * freq l := by
  subst hr
  unfold angle
  have ha := a.isLt
  have hb := b.isLt
  rw [dif_pos (by omega)]
  have ea : (⟨(a.val * 4096 + b.val) / 4096, by omega⟩ : Fin 4) = a := Fin.ext (by show (a.val * 4096 + b.val) / 4096 = a.val; omega)
  have eb : (⟨(a.val * 4096 + b.val) % 4096, by omega⟩ : Fin 4096) = b := Fin.ext (by show (a.val * 4096 + b.val) % 4096 = b.val; omega)
  rw [ea, eb]

end Cert.Hidden
-- ==== Proof.ProjBlk.lean ====
module

public import proofs.«01_k».proof.Proof.ProjAt
public import proofs.«01_k».proof.Proof.Hidden
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel2Ideal.Own

open Cert.Kernel2Ideal Cert.Kernel2Ideal.Gen Cert.Kernel2Ideal.Value
open Hidden (hidden freq angle hidden_of angle_of)

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![0, 0] ∧ win0_6.index t = ![t.val, 0] ∧ win0_7.index t = ![t.val, 0] :=
  (by decide +kernel : ∀ t : Fin grid0.N, _)

/-- The kernel's arguments as launched on a device. -/
abbrev B0 (c : Dev nD) : FVec Ideal S4x4096x1024 .f32 := m ((c : Thread nD τ).loc main_arg0)
abbrev B1 (c : Dev nD) : IVec S4x4096 32 := m ((c : Thread nD τ).loc main_arg1)
abbrev B2 (c : Dev nD) : FVec Ideal S1024x7184 .f32 := m ((c : Thread nD τ).loc main_arg2)
abbrev B3 (c : Dev nD) : FVec Ideal S16x512 .f32 := m ((c : Thread nD τ).loc main_arg3)
abbrev B4 (c : Dev nD) : FVec Ideal S512 .f32 := m ((c : Thread nD τ).loc main_arg4)

theorem t_lt (t : Fin cfg0.N) : t.val < 32 := by
  have := t.isLt
  have : cfg0.N = 32 := N_0
  omega

/-! The arrays that the launch stages. -/

theorem rows_at (c : Dev nD) (r : Fin 16384) (d : Fin 1024) :
    (V m c main_v8 : Vec Ideal S16384x1024 .f32) (ix2 r d) = B0 m c (ix3 ⟨r.val / 4096, by omega⟩ ⟨r.val % 4096, by omega⟩ d) := by
  unfold V
  after_reads_simp
  pointwise

theorem bias_at (c : Dev nD) (d : Fin 512) : (V m c main_v9 : Vec Ideal S1x512 .f32) (ix2 0 d) = B4 m c (ix1 d) := by
  unfold V
  after_reads_simp
  pointwise

theorem sitofp_zero : FloatOps.sitofp (F := Ideal) FTy.f32 0#32 = 0 := by
  show (((0#32).toInt : ℝ) : EReal) = 0
  simp

theorem wall_at (c : Dev nD) (r : Fin 1024) (d : Fin 7296) :
    (V m c main_v5 : Vec Ideal S1024x7296 .bf16) (ix2 r d)
      = if h : d.val < 3072 then B2 m c (ix2 r ⟨d.val, by omega⟩)
        else if h : d.val - 3072 < 4096 then B2 m c (ix2 r ⟨3088 + (d.val - 3072), by omega⟩)
        else if h : d.val - 3072 - 4096 < 16 then B2 m c (ix2 r ⟨3072 + (d.val - 3072 - 4096), by omega⟩) else 0 := by
  have e : (V m c main_v5 : Vec Ideal S1024x7296 .bf16)
      = truncf .bf16 (concatenate S1024x7296 1
          [⟨S1024x3072, extractStridedSlice S1024x3072 ![0, 0] (B2 m c) slices_S1024x7184_S1024x3072_0_0⟩,
            ⟨S1024x4096, extractStridedSlice S1024x4096 ![0, 3088] (B2 m c) slices_S1024x7184_S1024x4096_0_3088⟩,
            ⟨S1024x128, pad S1024x128 ![0, 0] ![0, 112] ![0, 0] (extractStridedSlice S1024x16 ![0, 3072] (B2 m c) slices_S1024x7184_S1024x16_0_3072)
              (sitofp .f32 (constantI S_ 32 0#32)) pads_S1024x16_S1024x128_000_01120 h_S_⟩] concatenates_S1024x3072_S1024x4096_S1024x128_S1024x7296_d1) bitsLt_bf16_f32 := by
    unfold V
    after_reads_simp
    rfl
  rw [e, ← sitofp_zero]
  pointwise

theorem wg_at (c : Dev nD) (r : Fin 128) (d : Fin 512) :
    (V m c main_v7 : Vec Ideal S128x512 .bf16) (ix2 r d) = if h : r.val < 16 then B3 m c (ix2 ⟨r.val, h⟩ d) else 0 := by
  have e : (V m c main_v7 : Vec Ideal S128x512 .bf16)
      = truncf .bf16 (pad S128x512 ![0, 0] ![112, 0] ![0, 0] (B3 m c) (sitofp .f32 (constantI S_ 32 0#32)) pads_S16x512_S128x512_01120_000 h_S_) bitsLt_bf16_f32 := by
    unfold V
    after_reads_simp
    rfl
  rw [e, ← sitofp_zero]
  pointwise

theorem pos_at (c : Dev nD) (r : Fin 8192) (d : Fin 128) :
    (V m c main_v15 : Vec Ideal S8192x128 .f32) (ix2 r d)
      = FloatOps.sitofp (F := Ideal) FTy.f32 (B1 m c (ix2 ⟨r.val / 256 / 8, by omega⟩ ⟨r.val / 256 % 8 * 512 + d.val / 64 * 256 + r.val % 256, by omega⟩)) := by
  unfold V
  after_reads_simp
  pointwise

theorem rope_at (c : Dev nD) (r : Fin 2) (d : Fin 128) :
    (V m c main_v34 : Vec Ideal S2x128 .f32) (ix2 r d)
      = if r.val < 1 then (if d.val < 64 then freq d.val else freq (d.val - 64)) else if d.val < 64 then -1 else 1 := by
  unfold V
  after_reads_simp
  pointwise
  after_reads_simp
  pointwise
  rfl

/-- The blocks of one grid point, as arrays. -/
abbrev K0 (c : Dev nD) (t : Fin cfg0.N) : Vec Ideal S512x1024 .f32 := iblk m c 0 t
abbrev K1 (c : Dev nD) (t : Fin cfg0.N) : Vec Ideal S1024x7296 .bf16 := iblk m c 1 t
abbrev K2 (c : Dev nD) (t : Fin cfg0.N) : Vec Ideal S128x512 .bf16 := iblk m c 2 t
abbrev K3 (c : Dev nD) (t : Fin cfg0.N) : Vec Ideal S1x512 .f32 := iblk m c 3 t
abbrev K4 (c : Dev nD) (t : Fin cfg0.N) : Vec Ideal S256x128 .f32 := iblk m c 4 t
abbrev K5 (c : Dev nD) (t : Fin cfg0.N) : Vec Ideal S2x128 .f32 := iblk m c 5 t

/-! The staged arrays' blocks. -/

theorem iblk0_at (c : Dev nD) (t : Fin cfg0.N) (r : Fin 512) (d : Fin 1024) :
    K0 m c t (ix2 r d)
      = (V m c main_v8 : Vec Ideal S16384x1024 .f32) (ix2 ⟨t.val * 512 + r.val, by have := t_lt t; omega⟩ d) := by
  generalize hV : (V m c main_v8 : Vec Ideal S16384x1024 .f32) = W
  change View.read (Elt Ideal) ((cfg0.win 0).blk t).view (V m c main_v8) (ix2 r d) = _
  rw [hV]
  blk_ext [idx t]

theorem iblk1_at (c : Dev nD) (t : Fin cfg0.N) (r : Fin 1024) (d : Fin 7296) :
    K1 m c t (ix2 r d) = (V m c main_v5 : Vec Ideal S1024x7296 .bf16) (ix2 r d) := by
  generalize hV : (V m c main_v5 : Vec Ideal S1024x7296 .bf16) = W
  change View.read (Elt Ideal) ((cfg0.win 1).blk t).view (V m c main_v5) (ix2 r d) = _
  rw [hV]
  blk_ext [idx t]

theorem iblk2_at (c : Dev nD) (t : Fin cfg0.N) (r : Fin 128) (d : Fin 512) :
    K2 m c t (ix2 r d) = (V m c main_v7 : Vec Ideal S128x512 .bf16) (ix2 r d) := by
  generalize hV : (V m c main_v7 : Vec Ideal S128x512 .bf16) = W
  change View.read (Elt Ideal) ((cfg0.win 2).blk t).view (V m c main_v7) (ix2 r d) = _
  rw [hV]
  blk_ext [idx t]

theorem iblk3_at (c : Dev nD) (t : Fin cfg0.N) (d : Fin 512) :
    K3 m c t (ix2 0 d) = (V m c main_v9 : Vec Ideal S1x512 .f32) (ix2 0 d) := by
  generalize hV : (V m c main_v9 : Vec Ideal S1x512 .f32) = W
  change View.read (Elt Ideal) ((cfg0.win 3).blk t).view (V m c main_v9) (ix2 0 d) = _
  rw [hV]
  blk_ext [idx t]

theorem iblk4_at (c : Dev nD) (t : Fin cfg0.N) (r : Fin 256) (d : Fin 128) :
    K4 m c t (ix2 r d)
      = (V m c main_v15 : Vec Ideal S8192x128 .f32) (ix2 ⟨t.val * 256 + r.val, by have := t_lt t; omega⟩ d) := by
  generalize hV : (V m c main_v15 : Vec Ideal S8192x128 .f32) = W
  change View.read (Elt Ideal) ((cfg0.win 4).blk t).view (V m c main_v15) (ix2 r d) = _
  rw [hV]
  blk_ext [idx t]

theorem iblk5_at (c : Dev nD) (t : Fin cfg0.N) (r : Fin 2) (d : Fin 128) :
    K5 m c t (ix2 r d) = (V m c main_v34 : Vec Ideal S2x128 .f32) (ix2 r d) := by
  generalize hV : (V m c main_v34 : Vec Ideal S2x128 .f32) = W
  change View.read (Elt Ideal) ((cfg0.win 5).blk t).view (V m c main_v34) (ix2 r d) = _
  rw [hV]
  blk_ext [idx t]

/-! What a block's launch computes, over the arguments. -/

theorem x_at (c : Dev nD) (t : Fin cfg0.N) (r : Fin 512) (k : Fin 1024) :
    K0 m c t (ix2 r k)
      = B0 m c (ix3 ⟨(t.val * 512 + r.val) / 4096, by have := t_lt t; omega⟩ ⟨(t.val * 512 + r.val) % 4096, by omega⟩ k) := by
  rw [iblk0_at, rows_at]

theorem hM (c : Dev nD) (t : Fin cfg0.N) (r : Fin 512) (d : Fin 7296) (hd : d.val < 7168) :
    (∑ k : Fin 1024, k0_pay1 (F := Ideal) (K0 m c t) (ix2 r k) * K1 m c t (ix2 k d))
      = hidden (B0 m c) (B2 m c) (t.val * 512 + r.val) (wcol d.val) := by
  have := t_lt t
  have hw : wcol d.val < 7184 := by unfold wcol; split <;> omega
  rw [hidden_of (B0 m c) (B2 m c) (t.val * 512 + r.val) (wcol d.val) ⟨(t.val * 512 + r.val) / 4096, by omega⟩ ⟨(t.val * 512 + r.val) % 4096, by omega⟩ ⟨wcol d.val, hw⟩
    (by show t.val * 512 + r.val = (t.val * 512 + r.val) / 4096 * 4096 + (t.val * 512 + r.val) % 4096; omega) rfl]
  refine Finset.sum_congr rfl fun k _ => ?_
  rw [xb_at, x_at, iblk1_at, wall_at]
  refine congrArg (_ * ·) ?_
  by_cases h : d.val < 3072
  · rw [dif_pos h]
    exact congrArg (fun j => B2 m c (ix2 k j)) (Fin.ext (by show d.val = wcol d.val; rw [wcol, if_pos h]))
  · rw [dif_neg h, dif_pos (by omega)]
    exact congrArg (fun j => B2 m c (ix2 k j)) (Fin.ext (by show 3088 + (d.val - 3072) = wcol d.val; rw [wcol, if_neg h]; omega))

theorem side (c : Dev nD) (t : Fin cfg0.N) (r : Fin 512) (q : Fin 16) :
    (∑ k : Fin 1024, K0 m c t (ix2 r k) * K1 m c t (ix2 k ⟨7168 + q.val, by omega⟩))
      = hidden (B0 m c) (B2 m c) (t.val * 512 + r.val) (3072 + q.val) := by
  have := t_lt t
  have hq := q.isLt
  rw [hidden_of (B0 m c) (B2 m c) (t.val * 512 + r.val) (3072 + q.val) ⟨(t.val * 512 + r.val) / 4096, by omega⟩ ⟨(t.val * 512 + r.val) % 4096, by omega⟩ ⟨3072 + q.val, by omega⟩
    (by show t.val * 512 + r.val = (t.val * 512 + r.val) / 4096 * 4096 + (t.val * 512 + r.val) % 4096; omega) rfl]
  refine Finset.sum_congr rfl fun k _ => ?_
  rw [x_at, iblk1_at, wall_at, dif_neg (show ¬ 7168 + q.val < 3072 by omega), dif_neg (show ¬ 7168 + q.val - 3072 < 4096 by omega), dif_pos (show 7168 + q.val - 3072 - 4096 < 16 by omega)]
  exact congrArg (_ * ·) (congrArg (fun j => B2 m c (ix2 k j)) (Fin.ext (by show 3072 + (7168 + q.val - 3072 - 4096) = 3072 + q.val; omega)))

theorem hL (c : Dev nD) (t : Fin cfg0.N) (r j : Fin 512) :
    lg ((∑ q : Fin 128, (∑ k : Fin 1024, K0 m c t (ix2 r k) * K1 m c t (ix2 k ⟨7168 + q.val, by omega⟩))
        * K2 m c t (ix2 q j)) + K3 m c t (ix2 0 j))
      = lg (Hidden.gate (B0 m c) (B2 m c) (B3 m c) (B4 m c) (t.val * 512 + r.val) j.val) := by
  unfold Hidden.gate
  rw [dif_pos j.isLt, iblk3_at, bias_at]
  refine congrArg lg (congrArg (· + B4 m c (ix1 j)) ?_)
  refine (Fin.sum_univ_add (a := 16) (b := 112) _).trans ?_
  rw [Finset.sum_eq_zero (s := (Finset.univ : Finset (Fin 112))), add_zero]
  · refine Finset.sum_congr rfl fun q _ => ?_
    refine congrArg₂ (· * ·) (side m c t r q) ?_
    rw [iblk2_at, wg_at, dif_pos (show (Fin.castAdd 112 q).val < 16 from q.isLt)]
    rfl
  · intro q _
    rw [iblk2_at, wg_at, dif_neg (show ¬ (Fin.natAdd 16 q).val < 16 by show ¬ 16 + q.val < 16; omega), mul_zero]

theorem hA (c : Dev nD) (t : Fin cfg0.N) (p : Fin 256) (l : Fin 128) :
    K4 m c t (ix2 p l) * K5 m c t (ix2 0 l)
      = angle (B1 m c) (t.val * 512 + (l.val / 64 * 256 + p.val)) (l.val % 64) := by
  have := t_lt t
  have hl := l.isLt
  have hp := p.isLt
  rw [iblk4_at, iblk5_at, pos_at, rope_at, if_pos (show (0 : Fin 2).val < 1 by decide)]
  rw [angle_of (B1 m c) _ _ ⟨(t.val * 256 + p.val) / 256 / 8, by omega⟩ ⟨(t.val * 256 + p.val) / 256 % 8 * 512 + l.val / 64 * 256 + (t.val * 256 + p.val) % 256, by omega⟩
    (by show t.val * 512 + (l.val / 64 * 256 + p.val) = (t.val * 256 + p.val) / 256 / 8 * 4096 + ((t.val * 256 + p.val) / 256 % 8 * 512 + l.val / 64 * 256 + (t.val * 256 + p.val) % 256); omega)]
  refine congrArg (_ * ·) ?_
  by_cases h : l.val < 64
  · rw [if_pos h, Nat.mod_eq_of_lt h]
  · rw [if_neg h, show l.val % 64 = l.val - 64 by omega]

theorem sign_at (c : Dev nD) (t : Fin cfg0.N) (l : Fin 128) :
    K5 m c t (ix2 1 l) = if l.val < 64 then -1 else 1 := by
  rw [iblk5_at, rope_at, if_neg (show ¬ (1 : Fin 2).val < 1 by decide)]

/-! The rotary tables. -/

theorem slt_64 : ∀ j : Fin 128, IntOp.cmpi CmpIPredicate.slt (BitVec.ofNat 32 j.val) 64#32 = BitVec.ofBool (decide (j.val < 64)) := by
  decide +kernel

theorem select_of {α : Type} (p : Prop) [Decidable p] (a b : α) : Scalar.select (BitVec.ofBool (decide p)) a b = if p then a else b := by
  by_cases h : p
  · rw [if_pos h, decide_eq_true h]; rfl
  · rw [if_neg h, decide_eq_false h]; rfl

section Tables

variable (A : ℕ → ℕ → EReal) (s : ℕ) (p : Vec Ideal S256x128 .f32) (q : Vec Ideal S2x128 .f32)
  (h : ∀ (i : Fin 256) (l : Fin 128), p (ix2 i l) * q (ix2 0 l) = A (s + (l.val / 64 * 256 + i.val)) (l.val % 64))

include h in
/-- A table's two halves, put back together. -/
theorem unpack (f : EReal → EReal) (r : Fin 512) (j : Fin 128) :
    (if h1 : r.val < 256 then
      Scalar.select (IntOp.cmpi CmpIPredicate.slt (BitVec.ofNat 32 j.val) 64#32) (f (p (ix2 ⟨r.val, h1⟩ j) * q (ix2 0 j)))
        (f (p (ix2 ⟨r.val, h1⟩ ⟨(j.val + 128 - 64) % 128, by omega⟩) * q (ix2 0 ⟨(j.val + 128 - 64) % 128, by omega⟩)))
    else
      Scalar.select (IntOp.cmpi CmpIPredicate.slt (BitVec.ofNat 32 j.val) 64#32)
        (f (p (ix2 ⟨r.val - 256, by omega⟩ ⟨(j.val + 128 - 64) % 128, by omega⟩) * q (ix2 0 ⟨(j.val + 128 - 64) % 128, by omega⟩)))
        (f (p (ix2 ⟨r.val - 256, by omega⟩ j) * q (ix2 0 j)))) = f (A (s + r.val) (j.val % 64)) := by
  have hr := r.isLt
  have hj := j.isLt
  simp only [slt_64, select_of, h]
  by_cases h1 : r.val < 256
  · rw [dif_pos h1]
    by_cases h2 : j.val < 64
    · rw [if_pos h2, show j.val / 64 * 256 + r.val = r.val by omega]
    · rw [if_neg h2, show (j.val + 128 - 64) % 128 / 64 * 256 + r.val = r.val by omega, show (j.val + 128 - 64) % 128 % 64 = j.val % 64 by omega]
  · rw [dif_neg h1]
    by_cases h2 : j.val < 64
    · rw [if_pos h2, show (j.val + 128 - 64) % 128 / 64 * 256 + (r.val - 256) = r.val by omega, show (j.val + 128 - 64) % 128 % 64 = j.val % 64 by omega]
    · rw [if_neg h2, show j.val / 64 * 256 + (r.val - 256) = r.val by omega]

include h in
theorem cosT_at (r : Fin 512) (j : Fin 128) : cosT p q (ix2 r j) = Ideal.cos (A (s + r.val) (j.val % 64)) := by
  unfold cosT
  open_payloads
  pointwise
  exact unpack A s p q h Ideal.cos r j

include h in
theorem sinT_at (hq : ∀ l : Fin 128, q (ix2 1 l) = if l.val < 64 then -1 else 1) (r : Fin 512) (j : Fin 128) :
    sinT p q (ix2 r j) = Ideal.sin (A (s + r.val) (j.val % 64)) * (if j.val < 64 then -1 else 1) := by
  unfold sinT
  open_payloads
  pointwise
  exact congrArg₂ (· * ·) (unpack A s p q h Ideal.sin r j) (hq j)

end Tables

end Cert.Kernel2Ideal.Own
-- ==== Proof.ProjVal.lean ====
module

public import proofs.«01_k».proof.Proof.ProjBlk

@[expose] public section

set_option maxRecDepth 16384

noncomputable section

open Idealize.ShloMosaic Idealize.ShloMosaic.TcCoe Idealize.SL.Sem
open Idealize.ShloMosaic.Pipeline (Dat)

namespace Cert.Kernel2Ideal.Own

open Cert.Kernel2Ideal Cert.Kernel2Ideal.Gen Cert.Kernel2Ideal.Value
open Hidden (hidden angle)
open Acts

variable (m : (ℓ : Loc nD τ sig) → Buf (Elt Ideal) ℓ)

/-- The gates' scaled logarithms, over the arguments. -/
def LG (c : Dev nD) (r j : ℕ) : EReal := lg (Hidden.gate (B0 m c) (B2 m c) (B3 m c) (B4 m c) r j)

/-- The prepared activations, over the arguments. -/
def actsArr (c : Dev nD) : FVec Ideal S16384x7680 .bf16 := fun i =>
  acts (hidden (B0 m c) (B2 m c)) (LG m c) (angle (B1 m c)) hs qs siluT (i 0).val (i 1).val

/-- The chunks' decays, over the arguments. -/
def decayArr (c : Dev nD) : FVec Ideal S2048x512 .f32 := fun i => Ideal.exp (run (LG m c) ((i 0).val / 8 * 64 + 63) (i 1).val)

theorem sumsK (c : Dev nD) (t : Fin cfg0.N) (r j : Fin 512) :
    sums (K0 m c t) (K1 m c t) (K2 m c t) (K3 m c t) (ix2 r j) = run (LG m c) (t.val * 512 + r.val) j.val :=
  sums_at (LG m c) (t.val * 512) (by omega) _ _ _ _ (hL m c t) r j

theorem acts_blk (c : Dev nD) (t : Fin cfg0.N) (r : Fin 512) (d : Fin 7680) :
    block (sums (K0 m c t) (K1 m c t) (K2 m c t) (K3 m c t)) (k0_pay1 (K0 m c t)) (K1 m c t) (cosT (K4 m c t) (K5 m c t)) (sinT (K4 m c t) (K5 m c t)) (ix2 r d)
      = acts (hidden (B0 m c) (B2 m c)) (LG m c) (angle (B1 m c)) hs qs siluT (t.val * 512 + r.val) d.val :=
  block_at (hidden (B0 m c) (B2 m c)) (LG m c) (angle (B1 m c)) (t.val * 512) (by omega) _ _ _ _ _ (hM m c t) (sumsK m c t)
    (cosT_at (angle (B1 m c)) (t.val * 512) _ _ (hA m c t)) (sinT_at (angle (B1 m c)) (t.val * 512) _ _ (hA m c t) (sign_at m c t)) r d

theorem decay_blk (c : Dev nD) (t : Fin cfg0.N) (r : Fin 64) (j : Fin 512) :
    decays (sums (K0 m c t) (K1 m c t) (K2 m c t) (K3 m c t)) (ix2 r j) = Ideal.exp (run (LG m c) (t.val * 512 + (r.val / 8 * 64 + 63)) j.val) :=
  decays_at (LG m c) (t.val * 512) (by omega) _ (sumsK m c t) r j

theorem final6 (c : Dev nD) : (dats m 0 c).arrAt 6 cfg0.N = actsArr m c := by
  refine (dats m 0 c).arrAt_eq_of_covers 6 _ (by decide +kernel) fun t hf y => ?_
  blk_simp
  rw [after0_6]
  unfold outsAt0
  dsimp only
  rw [out6]
  obtain ⟨r, d, rfl⟩ : ∃ (r : Fin 512) (d : Fin 7680), y = ix2 r d := ⟨_, _, (ix2_eta y).symm⟩
  refine (acts_blk m c t r d).trans ?_
  unfold actsArr
  blk_simp [idx t]

theorem final7 (c : Dev nD) : (dats m 0 c).arrAt 7 cfg0.N = decayArr m c := by
  refine (dats m 0 c).arrAt_eq_of_covers 7 _ (by decide +kernel) fun t hf y => ?_
  blk_simp
  rw [after0_7]
  unfold outsAt0
  dsimp only
  rw [out7]
  obtain ⟨r, d, rfl⟩ : ∃ (r : Fin 64) (d : Fin 512), y = ix2 r d := ⟨_, _, (ix2_eta y).symm⟩
  refine (decay_blk m c t r d).trans ?_
  unfold decayArr
  blk_simp [idx t]
  exact congrArg Ideal.exp (congrArg (run (LG m c) · d.val) (by omega))

end Cert.Kernel2Ideal.Own
-- ==== Proof.Cumsum.lean ====
module

public import proofs.«01_k».proof.Proof.Acts

@[expose] public section

set_option maxRecDepth 16384

noncomputable section

open Idealize.ShloMosaic

/-! A chunk's running sum, printed as a sum over a window that reaches 63 places back. -/

namespace Cert.Acts

theorem foldl_add {n : ℕ} (v : EReal) (g : Fin n → EReal) : (List.finRange n).foldl (fun r k => r + g k) v = v + ∑ k, g k := by
  rw [Fin.sum_univ_def]
  generalize List.finRange n = l
  induction l generalizing v with
  | nil => simp
  | cons a l ih => simp only [List.foldl_cons, List.map_cons, List.sum_cons, ih, add_assoc]

/-- A window's places: only the third axis has more than one. -/
def place : (⟨4, ![1, 1, 64, 1]⟩ : Shape).Idx ≃ Fin 64 where
  toFun w := w 2
  invFun l := ix4 0 0 l 0
  left_inv w := by
    funext a
    fin_cases a
    · exact (Fin.fin_one_eq_zero (w 0)).symm
    · exact (Fin.fin_one_eq_zero (w 1)).symm
    · rfl
    · exact (Fin.fin_one_eq_zero (w 3)).symm
  right_inv l := rfl

theorem sum_back (X : ℕ → EReal) (i : Fin 64) :
    (∑ l : Fin 64, if 63 ≤ i.val + l.val then X (i.val + l.val - 63) else 0) = ∑ k ∈ Finset.range (min 64 (i.val + 1)), X (i.val - k) := by
  have hi := i.isLt
  rw [← Equiv.sum_comp Fin.revPerm, Nat.min_eq_right (by omega)]
  have e : ∀ l : Fin 64, (if 63 ≤ i.val + (Fin.revPerm l).val then X (i.val + (Fin.revPerm l).val - 63) else 0)
      = (fun k : ℕ => if k ≤ i.val then X (i.val - k) else 0) l.val := by
    intro l
    have hl := l.isLt
    have hr : (Fin.revPerm l).val = 63 - l.val := by rw [Fin.revPerm_apply, Fin.val_rev]; omega
    rw [hr]
    dsimp only
    by_cases h : l.val ≤ i.val
    · rw [if_pos (by omega), if_pos h, show i.val + (63 - l.val) - 63 = i.val - l.val by omega]
    · rw [if_neg (by omega), if_neg h]
  rw [Finset.sum_congr rfl fun l _ => e l, Fin.sum_univ_eq_sum_range (fun k : ℕ => if k ≤ i.val then X (i.val - k) else 0) 64]
  rw [← Finset.sum_subset (s₁ := Finset.range (i.val + 1)) (by intro k hk; rw [Finset.mem_range] at hk ⊢; omega)
    (by intro k _ hk; rw [Finset.mem_range] at hk; exact if_neg (by omega))]
  refine Finset.sum_congr rfl fun k hk => ?_
  rw [Finset.mem_range] at hk
  exact if_pos (by omega)

theorem window_at (x : FVec Ideal ⟨4, ![4, 64, 64, 512]⟩ .f32) {u : Shape} (init : u.Idx → Ideal .f32)
    (h : (⟨4, ![4, 64, 64, 512]⟩ : Shape).ReduceWindows ![1, 1, 64, 1] ![1, 1, 1, 1] ![0, 0, 63, 0] ![0, 0, 0, 0] ⟨4, ![4, 64, 64, 512]⟩) (hu : 0 < u.numel)
    (hz : ∀ y, init y = 0) (L : ℕ → ℕ → EReal) (hx : ∀ a n i j, x (ix4 a n i j) = L (a.val * 4096 + (n.val * 64 + i.val)) j.val)
    (a : Fin 4) (n i : Fin 64) (j : Fin 512) :
    Host.reduceWindowAdd (F := Ideal) ![1, 1, 64, 1] ![1, 1, 1, 1] ![0, 0, 63, 0] ![0, 0, 0, 0] x init h hu (ix4 a n i j)
      = run L (a.val * 4096 + (n.val * 64 + i.val)) j.val := by
  refine (foldl_add (init (Shape.Idx.first hu)) _).trans ?_
  rw [hz, zero_add]
  have hi := i.isLt
  refine (Finset.sum_congr rfl fun k _ => (?_ : _ = (fun l : Fin 64 => if 63 ≤ i.val + l.val then L (a.val * 4096 + (n.val * 64 + (i.val + l.val - 63))) j.val else 0)
    (place ((⟨4, ![1, 1, 64, 1]⟩ : Shape).rowMajor.symm k)))).trans ((Equiv.sum_comp (((⟨4, ![1, 1, 64, 1]⟩ : Shape).rowMajor.symm).trans place) _).trans
      ((sum_back (fun q => L (a.val * 4096 + (n.val * 64 + q)) j.val) i).trans ?_))
  · have c0 : ((⟨4, ![1, 1, 64, 1]⟩ : Shape).rowMajor.symm k 0).val = 0 := Nat.lt_one_iff.1 ((⟨4, ![1, 1, 64, 1]⟩ : Shape).rowMajor.symm k 0).isLt
    have c1 : ((⟨4, ![1, 1, 64, 1]⟩ : Shape).rowMajor.symm k 1).val = 0 := Nat.lt_one_iff.1 ((⟨4, ![1, 1, 64, 1]⟩ : Shape).rowMajor.symm k 1).isLt
    have c3 : ((⟨4, ![1, 1, 64, 1]⟩ : Shape).rowMajor.symm k 3).val = 0 := Nat.lt_one_iff.1 ((⟨4, ![1, 1, 64, 1]⟩ : Shape).rowMajor.symm k 3).isLt
    have hl : ((⟨4, ![1, 1, 64, 1]⟩ : Shape).rowMajor.symm k 2).val < 64 := ((⟨4, ![1, 1, 64, 1]⟩ : Shape).rowMajor.symm k 2).isLt
    show _ = if 63 ≤ i.val + ((⟨4, ![1, 1, 64, 1]⟩ : Shape).rowMajor.symm k 2).val then L (a.val * 4096 + (n.val * 64 + (i.val + ((⟨4, ![1, 1, 64, 1]⟩ : Shape).rowMajor.symm k 2).val - 63))) j.val else 0
    by_cases h1 : 63 ≤ i.val + ((⟨4, ![1, 1, 64, 1]⟩ : Shape).rowMajor.symm k 2).val
    · rw [if_pos h1]
      refine (dif_pos ?_).trans (Eq.trans (congrArg x ?_) (hx a n ⟨i.val + ((⟨4, ![1, 1, 64, 1]⟩ : Shape).rowMajor.symm k 2).val - 63, by omega⟩ j))
      · intro b
        have ha := a.isLt
        have hn := n.isLt
        have hj := j.isLt
        fin_cases b
        · show 0 ≤ a.val * 1 + ((⟨4, ![1, 1, 64, 1]⟩ : Shape).rowMajor.symm k 0).val ∧ a.val * 1 + ((⟨4, ![1, 1, 64, 1]⟩ : Shape).rowMajor.symm k 0).val - 0 < 4; omega
        · show 0 ≤ n.val * 1 + ((⟨4, ![1, 1, 64, 1]⟩ : Shape).rowMajor.symm k 1).val ∧ n.val * 1 + ((⟨4, ![1, 1, 64, 1]⟩ : Shape).rowMajor.symm k 1).val - 0 < 64; omega
        · show 63 ≤ i.val * 1 + ((⟨4, ![1, 1, 64, 1]⟩ : Shape).rowMajor.symm k 2).val ∧ i.val * 1 + ((⟨4, ![1, 1, 64, 1]⟩ : Shape).rowMajor.symm k 2).val - 63 < 64; omega
        · show 0 ≤ j.val * 1 + ((⟨4, ![1, 1, 64, 1]⟩ : Shape).rowMajor.symm k 3).val ∧ j.val * 1 + ((⟨4, ![1, 1, 64, 1]⟩ : Shape).rowMajor.symm k 3).val - 0 < 512; omega
      · funext b
        fin_cases b <;> refine Fin.ext ?_
        · show a.val * 1 + ((⟨4, ![1, 1, 64, 1]⟩ : Shape).rowMajor.symm k 0).val - 0 = a.val; omega
        · show n.val * 1 + ((⟨4, ![1, 1, 64, 1]⟩ : Shape).rowMajor.symm k 1).val - 0 = n.val; omega
        · show i.val * 1 + ((⟨4, ![1, 1, 64, 1]⟩ : Shape).rowMajor.symm k 2).val - 63 = i.val + ((⟨4, ![1, 1, 64, 1]⟩ : Shape).rowMajor.symm k 2).val - 63; omega
        · show j.val * 1 + ((⟨4, ![1, 1, 64, 1]⟩ : Shape).rowMajor.symm k 3).val - 0 = j.val; omega
    · rw [if_neg h1]
      refine dif_neg fun hin => ?_
      have h2 : 63 ≤ i.val * 1 + ((⟨4, ![1, 1, 64, 1]⟩ : Shape).rowMajor.symm k 2).val := (hin 2).1
      omega
  · unfold run psum
    rw [show (a.val * 4096 + (n.val * 64 + i.val)) % 64 = i.val by omega]
    refine Finset.sum_congr rfl fun k hk => ?_
    rw [Finset.mem_range] at hk
    exact congrArg (L · j.val) (by omega)

end Cert.Acts
-- ==== Proof.RefVal2.lean ====
module

public import proofs.«01_k».proof.Proof.Gen.Reference2Ideal.Read
public import proofs.«01_k».proof.Proof.Cumsum
public import proofs.«01_k».proof.Proof.Hidden
public import proofs.«01_k».proof.Proof.Spec

@[expose] public section

set_option maxRecDepth 16384

noncomputable section

open Idealize.ShloMosaic Idealize.ShloMosaic.TcCoe Idealize.SL.Sem

namespace Cert.Reference2Ideal.Spec

open Cert.Reference2Ideal Cert.Reference2Ideal.Gen Cert.Reference2Ideal.Read
open Hidden (hidden freq angle hidden_of angle_of)
open Acts

variable (x0 : FVec Ideal S4x4096x1024 .f32) (x1 : IVec S4x4096 32) (x2 : FVec Ideal S1024x7184 .f32) (x3 : FVec Ideal S16x512 .f32) (x4 : FVec Ideal S512 .f32)

/-- The log of the sigmoid over 16, and SiLU, as the reference writes them. -/
def lgR (z : EReal) : EReal :=
  Ideal.div (-(max (-z) 0 + Ideal.log1p (Ideal.exp (-FloatOps.absf (F := Ideal) (φ := .f32) (-z))))) (Ideal.ofBits FTy.f32 0x41800000#32)
def siluR (z : EReal) : EReal := z * Ideal.div 1 (1 + Ideal.exp (-z))
/-- The two scales. -/
def hsR : EReal := Ideal.rsqrt (Ideal.ofBits FTy.f32 0x43000000#32)
def qsR : EReal := Ideal.div (Ideal.rsqrt (Ideal.ofBits FTy.f32 0x43000000#32)) (Ideal.log (Ideal.ofBits FTy.f32 0x40000000#32))
/-- The gates' scaled logarithms. -/
def LR (r j : ℕ) : EReal := lgR (Hidden.gate x0 x2 x3 x4 r j)

theorem hid (a : Fin 4) (b : Fin 4096) (d : Fin 7184) (r c : ℕ) (hr : r = a.val * 4096 + b.val) (hc : c = d.val) :
    val_main_v21 (F := Ideal) x0 x2 (ix3 a b d) = hidden x0 x2 r c := by
  rw [hidden_of x0 x2 _ _ a b d hr hc]
  pointwise [val_main_v21]

theorem ang (a : Fin 4) (b : Fin 4096) (l : Fin 64) (r c : ℕ) (hr : r = a.val * 4096 + b.val) (hc : c = l.val) :
    val_main_v16 (F := Ideal) x1 (ix3 a b l) = angle x1 r c := by
  subst hc
  rw [angle_of x1 _ _ a b hr]
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  rfl

theorem gate_at (a : Fin 4) (b : Fin 4096) (j : Fin 512) : val_main_v36 (F := Ideal) x0 x2 x3 x4 (ix3 a b j) = Hidden.gate x0 x2 x3 x4 (a.val * 4096 + b.val) j.val := by
  unfold Hidden.gate
  rw [dif_pos j.isLt]
  pointwise [val_main_v36, val_main_v35, val_main_v34, val_main_v33, val_main_v26]
  exact congrArg (· + x4 (ix1 j)) (Finset.sum_congr rfl fun q _ => congrArg (· * x3 (ix2 q j)) (hid x0 x2 _ _ _ _ _ rfl rfl))

theorem lgR_at (a : Fin 4) (n i : Fin 64) (j : Fin 512) :
    val_main_v40 (F := Ideal) x0 x2 x3 x4 (ix4 a n i j) = LR x0 x2 x3 x4 (a.val * 4096 + (n.val * 64 + i.val)) j.val := by
  pointwise [val_main_v40, val_main_v39, val_main_v38, val_main_v37, val_main_cst_4, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_v0, val_main_call0_call0_cst]
  rw [if_neg (not_not.2 rfl), gate_at]
  rfl

theorem zero_at (y : S_.Idx) : val_main_call1_call0_v0 (F := Ideal) y = 0 := by
  rw [val_main_call1_call0_v0_apply, val_main_call1_call0_cst_apply]
  exact Ideal.ofBits_zero .f32

theorem run_at (a : Fin 4) (n i : Fin 64) (j : Fin 512) (r : ℕ) (hr : r = a.val * 4096 + (n.val * 64 + i.val)) :
    val_main_v41 (F := Ideal) x0 x2 x3 x4 (ix4 a n i j) = run (LR x0 x2 x3 x4) r j.val := by
  subst hr
  unfold val_main_v41
  exact window_at _ _ _ _ zero_at (LR x0 x2 x3 x4) (lgR_at x0 x2 x3 x4) a n i j

/-! The pieces of the prepared activations. -/

theorem qd_at (r : Fin 16384) (j : Fin 512) :
    val_main_v61 (F := Ideal) x0 x2 x3 x4 (ix2 r j) = hidden x0 x2 r.val j.val * hsR * Ideal.exp (run (LR x0 x2 x3 x4) r.val j.val) := by
  pointwise [val_main_v61, val_main_v48, val_main_v47, val_main_v46, val_main_v45, val_main_v44, val_main_v43, val_main_v22, val_main_cst_5]
  exact congrArg₂ (· * ·) (congrArg (· * hsR) (hid x0 x2 _ _ _ _ _ (by dsimp only; omega) rfl))
    (congrArg Ideal.exp (run_at x0 x2 x3 x4 _ _ _ _ _ (by dsimp only; omega)))

theorem ki_at (r : Fin 16384) (j : Fin 512) :
    val_main_v62 (F := Ideal) x0 x2 x3 x4 (ix2 r j) = hidden x0 x2 r.val (512 + j.val) * Ideal.exp (0 - run (LR x0 x2 x3 x4) r.val j.val) := by
  rw [sub_eq_add_neg, zero_add]
  pointwise [val_main_v62, val_main_v52, val_main_v51, val_main_v50, val_main_v49, val_main_v23]
  exact congrArg₂ (· * ·) (hid x0 x2 _ _ _ _ _ (by dsimp only; omega) rfl)
    (congrArg (fun y => Ideal.exp (-y)) (run_at x0 x2 x3 x4 _ _ _ _ _ (by dsimp only; omega)))

theorem kt_at (r : Fin 16384) (j : Fin 512) :
    val_main_v66 (F := Ideal) x0 x2 x3 x4 (ix2 r j)
      = hidden x0 x2 r.val (512 + j.val) * Ideal.exp (run (LR x0 x2 x3 x4) (r.val / 64 * 64 + 63) j.val - run (LR x0 x2 x3 x4) r.val j.val) := by
  pointwise [val_main_v66, val_main_v57, val_main_v56, val_main_v55, val_main_v54, val_main_v53, val_main_v42, val_main_v23]
  exact congrArg₂ (· * ·) (hid x0 x2 _ _ _ _ _ (by dsimp only; omega) rfl)
    (congrArg Ideal.exp (congrArg₂ (· - ·) (run_at x0 x2 x3 x4 _ _ _ _ _ (by show _ = r.val / 4096 * 4096 + (r.val / 64 % 64 * 64 + 63); omega))
      (run_at x0 x2 x3 x4 _ _ _ _ _ (by dsimp only; omega))))

theorem gv_at (r : Fin 16384) (j : Fin 1024) : val_main_v63 (F := Ideal) x0 x2 (ix2 r j) = hidden x0 x2 r.val (1024 + j.val) := by
  pointwise [val_main_v63, val_main_v24]
  exact hid x0 x2 _ _ _ _ _ (by dsimp only; omega) rfl

theorem gg_at (r : Fin 16384) (j : Fin 1024) : val_main_v65 (F := Ideal) x0 x2 (ix2 r j) = siluR (hidden x0 x2 r.val (2048 + j.val)) := by
  pointwise [val_main_v65, val_main_v64, val_main_call2_v5, val_main_call2_v4, val_main_call2_v3, val_main_call2_v2, val_main_call2_v1, val_main_call2_v0, val_main_call2_cst, val_main_call2_cst_0, val_main_v25]
  exact congrArg siluR (hid x0 x2 _ _ _ _ _ (by dsimp only; omega) rfl)

theorem dg_at (r : Fin 16384) (j : Fin 512) : val_main_v103 (F := Ideal) x0 x2 (ix2 r j) = siluR (hidden x0 x2 r.val (5648 + j.val)) := by
  pointwise [val_main_v103, val_main_v102, val_main_call3_v5, val_main_call3_v4, val_main_call3_v3, val_main_call3_v2, val_main_call3_v1, val_main_call3_v0, val_main_call3_cst, val_main_call3_cst_0, val_main_v30]
  exact congrArg siluR (hid x0 x2 _ _ _ _ _ (by dsimp only; omega) rfl)

theorem mg_at (r : Fin 16384) (j : Fin 512) : val_main_v108 (F := Ideal) x0 x2 (ix2 r j) = siluR (hidden x0 x2 r.val (6672 + j.val)) := by
  pointwise [val_main_v108, val_main_v107, val_main_call4_v5, val_main_call4_v4, val_main_call4_v3, val_main_call4_v2, val_main_call4_v1, val_main_call4_v0, val_main_call4_cst, val_main_call4_cst_0, val_main_v32]
  exact congrArg siluR (hid x0 x2 _ _ _ _ _ (by dsimp only; omega) rfl)

theorem dv_at (r : Fin 16384) (j : Fin 512) : val_main_v101 (F := Ideal) x0 x2 (ix2 r j) = hidden x0 x2 r.val (5136 + j.val) := by
  pointwise [val_main_v101, val_main_v29]
  exact hid x0 x2 _ _ _ _ _ (by dsimp only; omega) rfl

theorem mq_at (r : Fin 16384) (j : Fin 512) : val_main_v106 (F := Ideal) x0 x2 (ix2 r j) = hidden x0 x2 r.val (6160 + j.val) * qsR := by
  pointwise [val_main_v106, val_main_v105, val_main_v104, val_main_v31, val_main_v60, val_main_v59, val_main_v58, val_main_cst_6, val_main_cst_7]
  exact congrArg (· * qsR) (hid x0 x2 _ _ _ _ _ (by dsimp only; omega) rfl)

theorem dq_rot (a : Fin 4) (b : Fin 4096) (h : Fin 12) (l : Fin 128) :
    val_main_v80 (F := Ideal) x0 x1 x2 (ix4 a b h l) = rot (hidden x0 x2) (angle x1) (a.val * 4096 + b.val) (3088 + h.val * 128) l.val := by
  pointwise [val_main_v80, val_main_v79, val_main_v78, val_main_v77, val_main_v76, val_main_v75, val_main_v74, val_main_v73, val_main_v72, val_main_v71, val_main_v70, val_main_v69, val_main_v68, val_main_v67, val_main_v27, val_main_v20, val_main_v19, val_main_v18, val_main_v17]
  unfold rot
  by_cases hl : l.val < 64
  · rw [dif_pos hl, if_pos hl]
    refine congrArg₂ (· - ·) (congrArg₂ (· * ·) (hid x0 x2 _ _ _ _ _ rfl ?_) (congrArg Ideal.cos (ang x1 _ _ _ _ _ rfl rfl)))
      (congrArg₂ (· * ·) (hid x0 x2 _ _ _ _ _ rfl ?_) (congrArg Ideal.sin (ang x1 _ _ _ _ _ rfl rfl)))
    all_goals (dsimp only; omega)
  · rw [dif_neg hl, if_neg hl]
    refine congrArg₂ (· + ·) (congrArg₂ (· * ·) (hid x0 x2 _ _ _ _ _ rfl ?_) (congrArg Ideal.cos (ang x1 _ _ _ _ _ rfl rfl)))
      (congrArg₂ (· * ·) (hid x0 x2 _ _ _ _ _ rfl ?_) (congrArg Ideal.sin (ang x1 _ _ _ _ _ rfl rfl)))
    all_goals (dsimp only; omega)

theorem dq_at (r : Fin 16384) (j : Fin 1536) :
    val_main_v84 (F := Ideal) x0 x1 x2 (ix2 r j) = rot (hidden x0 x2) (angle x1) r.val (3088 + j.val / 128 * 128) (j.val % 128) * qsR := by
  pointwise [val_main_v84, val_main_v83, val_main_v82, val_main_v81, val_main_v60, val_main_v59, val_main_v58, val_main_cst_6, val_main_cst_7]
  refine congrArg (· * qsR) ((dq_rot x0 x1 x2 _ _ _ _).trans ?_)
  exact congrArg (fun k => rot (hidden x0 x2) (angle x1) k (3088 + j.val / 128 * 128) (j.val % 128)) (by dsimp only; omega)

theorem dk_rot (a : Fin 4) (b : Fin 4096) (h : Fin 4) (l : Fin 128) :
    val_main_v98 (F := Ideal) x0 x1 x2 (ix4 a b h l) = rot (hidden x0 x2) (angle x1) (a.val * 4096 + b.val) (4624 + h.val * 128) l.val := by
  pointwise [val_main_v98, val_main_v97, val_main_v96, val_main_v95, val_main_v94, val_main_v93, val_main_v92, val_main_v91, val_main_v90, val_main_v89, val_main_v88, val_main_v87, val_main_v86, val_main_v85, val_main_v28, val_main_v20, val_main_v19, val_main_v18, val_main_v17]
  unfold rot
  by_cases hl : l.val < 64
  · rw [dif_pos hl, if_pos hl]
    refine congrArg₂ (· - ·) (congrArg₂ (· * ·) (hid x0 x2 _ _ _ _ _ rfl ?_) (congrArg Ideal.cos (ang x1 _ _ _ _ _ rfl rfl)))
      (congrArg₂ (· * ·) (hid x0 x2 _ _ _ _ _ rfl ?_) (congrArg Ideal.sin (ang x1 _ _ _ _ _ rfl rfl)))
    all_goals (dsimp only; omega)
  · rw [dif_neg hl, if_neg hl]
    refine congrArg₂ (· + ·) (congrArg₂ (· * ·) (hid x0 x2 _ _ _ _ _ rfl ?_) (congrArg Ideal.cos (ang x1 _ _ _ _ _ rfl rfl)))
      (congrArg₂ (· * ·) (hid x0 x2 _ _ _ _ _ rfl ?_) (congrArg Ideal.sin (ang x1 _ _ _ _ _ rfl rfl)))
    all_goals (dsimp only; omega)

theorem dk_at (r : Fin 16384) (j : Fin 512) :
    val_main_v100 (F := Ideal) x0 x1 x2 (ix2 r j) = rot (hidden x0 x2) (angle x1) r.val (4624 + j.val / 128 * 128) (j.val % 128) := by
  pointwise [val_main_v100, val_main_v99]
  refine (dk_rot x0 x1 x2 _ _ _ _).trans ?_
  exact congrArg (fun k => rot (hidden x0 x2) (angle x1) k (4624 + j.val / 128 * 128) (j.val % 128)) (by dsimp only; omega)

/-- The second result. -/
theorem decay_at (r : Fin 2048) (j : Fin 512) :
    val_main_v114 (F := Ideal) x0 x2 x3 x4 (ix2 r j) = Ideal.exp (run (LR x0 x2 x3 x4) (r.val / 8 * 64 + 63) j.val) := by
  pointwise [val_main_v114, val_main_v113, val_main_v112, val_main_v111, val_main_v42]
  exact congrArg Ideal.exp (run_at x0 x2 x3 x4 _ _ _ _ _ (by show _ = r.val / 8 / 64 * 4096 + (r.val / 8 % 64 * 64 + 63); omega))

/-- The first result. -/
theorem acts_at (r : Fin 16384) (j : Fin 7680) :
    val_main_v110 (F := Ideal) x0 x1 x2 x3 x4 (ix2 r j) = acts (hidden x0 x2) (LR x0 x2 x3 x4) (angle x1) hsR qsR siluR r.val j.val := by
  have hj := j.isLt
  pointwise [val_main_v110, val_main_v109]
  by_cases h1 : j.val < 512
  · rw [dif_pos h1, qd_at, acts_qd _ _ _ _ _ _ _ _ h1]
  rw [dif_neg h1]
  by_cases h2 : j.val - 512 < 512
  · rw [dif_pos h2, ki_at, acts_ki _ _ _ _ _ _ _ _ (by omega)]
    exact congrArg (fun k => hidden x0 x2 r.val k * _) (by dsimp only; omega)
  rw [dif_neg h2]
  by_cases h3 : j.val - 512 - 512 < 1024
  · rw [dif_pos h3, gv_at, acts_gv _ _ _ _ _ _ _ _ (by omega)]
    exact congrArg (hidden x0 x2 r.val) (by dsimp only; omega)
  rw [dif_neg h3]
  by_cases h4 : j.val - 512 - 512 - 1024 < 1024
  · rw [dif_pos h4, gg_at, acts_gg _ _ _ _ _ _ _ _ (by omega)]
    exact congrArg (fun k => siluR (hidden x0 x2 r.val k)) (by dsimp only; omega)
  rw [dif_neg h4]
  by_cases h5 : j.val - 512 - 512 - 1024 - 1024 < 512
  · rw [dif_pos h5, kt_at, acts_kt _ _ _ _ _ _ _ _ (by omega)]
    exact congrArg₂ (fun k l => hidden x0 x2 r.val k * Ideal.exp (run (LR x0 x2 x3 x4) (r.val / 64 * 64 + 63) l - run (LR x0 x2 x3 x4) r.val l))
      (by dsimp only; omega) (by dsimp only; omega)
  rw [dif_neg h5]
  by_cases h6 : j.val - 512 - 512 - 1024 - 1024 - 512 < 1536
  · rw [dif_pos h6, dq_at, acts_dq _ _ _ _ _ _ _ _ (by omega)]
    exact congrArg₂ (fun o l => rot (hidden x0 x2) (angle x1) r.val o l * qsR) (by dsimp only; omega) (by dsimp only; omega)
  rw [dif_neg h6]
  by_cases h7 : j.val - 512 - 512 - 1024 - 1024 - 512 - 1536 < 512
  · rw [dif_pos h7, dk_at, acts_dk _ _ _ _ _ _ _ _ (by omega)]
    exact congrArg₂ (fun o l => rot (hidden x0 x2) (angle x1) r.val o l) (by dsimp only; omega) (by dsimp only; omega)
  rw [dif_neg h7]
  by_cases h8 : j.val - 512 - 512 - 1024 - 1024 - 512 - 1536 - 512 < 512
  · rw [dif_pos h8, dv_at, acts_dv _ _ _ _ _ _ _ _ (by omega)]
    exact congrArg (hidden x0 x2 r.val) (by dsimp only; omega)
  rw [dif_neg h8]
  by_cases h9 : j.val - 512 - 512 - 1024 - 1024 - 512 - 1536 - 512 - 512 < 512
  · rw [dif_pos h9, dg_at, acts_dg _ _ _ _ _ _ _ _ (by omega)]
    exact congrArg (fun k => siluR (hidden x0 x2 r.val k)) (by dsimp only; omega)
  rw [dif_neg h9]
  by_cases h10 : j.val - 512 - 512 - 1024 - 1024 - 512 - 1536 - 512 - 512 - 512 < 512
  · rw [dif_pos h10, mq_at, acts_mq _ _ _ _ _ _ _ _ (by omega)]
    exact congrArg (fun k => hidden x0 x2 r.val k * qsR) (by dsimp only; omega)
  rw [dif_neg h10, mg_at, acts_mg _ _ _ _ _ _ _ _ (by omega)]
  exact congrArg (fun k => siluR (hidden x0 x2 r.val k)) (by dsimp only; omega)

end Cert.Reference2Ideal.Spec
-- ==== Proof.Agree2.lean ====
module

public import proofs.«01_k».proof.Proof.ProjVal
public import proofs.«01_k».proof.Proof.RefVal2
public import proofs.«01_k».proof.Proof.Finite
public import proofs.«01_k».proof.Proof.Agree
public import proofs.«01_k».proof.Proof.Gen.Pre_finite2

@[expose] public section

set_option maxRecDepth 16384

noncomputable section

open Idealize.ShloMosaic Idealize.ShloMosaic.TcCoe Idealize.SL.Sem

/-! What the precondition of the projection says: the activations and the weight hold real numbers. -/

namespace Cert.Pre_finite2.Own

open Cert.Pre_finite2

theorem reals [Facts] {a0 a1 a2 a3 a4} (h : Cert.Pre_finite2.fn (F := Ideal) a0 a1 a2 a3 a4 = fun _ => 1#1) :
    (∀ i, ∃ r : ℝ, a0 i = r) ∧ (∀ i, ∃ r : ℝ, a2 i = r) := by
  have e := congrFun h (Shape.Idx.first Facts.h_S_)
  unfold fn at e
  obtain ⟨e0, e2⟩ := Pre_finite.Own.and_one e
  exact ⟨Pre_finite.Own.all_real _ _ _ _ e0, Pre_finite.Own.all_real _ _ _ _ e2⟩

end Cert.Pre_finite2.Own

/-! The projection's two programs compute the same two arrays. -/

namespace Cert.Agree2

open Cert.Kernel2Ideal.Own (lg hs qs siluT LG actsArr decayArr B0 B1 B2 B3 B4)
open Cert.Reference2Ideal.Spec (lgR hsR qsR siluR LR)
open Acts (acts run acts_congr)
open Hidden (hidden)

theorem hs_eq : hs = hsR :=
  (IdealRules.named_const.ideal_named_scalar _ _ _ _ rfl : hs = (((Real.sqrt 128)⁻¹ : ℝ) : EReal)).trans Agree.rsqrt_128.symm

theorem qs_eq : qs = qsR := by
  refine ((IdealRules.named_const.ideal_named_scalar _ _ _ _ rfl : qs = (((Real.sqrt 128)⁻¹ * (Real.log 2)⁻¹ : ℝ) : EReal))).trans ?_
  rw [← div_eq_mul_inv]
  exact Agree.scale_eq.symm

theorem lg_eq (z : EReal) : lg z = lgR z := by
  have h16 : Ideal.ofBits .f32 0x41800000#32 = ((16 : ℝ) : EReal) := by
    simp [Ideal.ofBits, Ideal.ieee]
    rw [← EReal.coe_mul]
    norm_num
  have hi : Ideal.ofBits .f32 0x3D800000#32 = (((16 : ℝ)⁻¹ : ℝ) : EReal) := by
    simp [Ideal.ofBits, Ideal.ieee]
    rw [← EReal.coe_mul]
    norm_num
  have h0 : ((16 : ℝ) : EReal) ≠ 0 := by
    rw [← EReal.coe_zero, Ne, EReal.coe_eq_coe_iff]
    norm_num
  unfold lg lgR
  rw [h16, hi]
  unfold Ideal.div
  rw [if_neg h0, EReal.coe_inv]
  simp only [sub_eq_add_neg, zero_add]

theorem hidden_real (x : FVec Ideal ⟨3, ![4, 4096, 1024]⟩ .f32) (w : FVec Ideal ⟨2, ![1024, 7184]⟩ .f32) (hx : ∀ i, ∃ r : ℝ, x i = r) (hw : ∀ i, ∃ r : ℝ, w i = r) (r c : ℕ) :
    ∃ y : ℝ, Hidden.hidden x w r c = y := by
  choose f hf using hx
  choose g hg using hw
  unfold Hidden.hidden
  by_cases h : r < 16384 ∧ c < 7184
  · rw [dif_pos h]
    simp only [hf, hg, ← EReal.coe_mul, ← Spec.coe_sum]
    exact ⟨_, rfl⟩
  · rw [dif_neg h]
    exact ⟨0, rfl⟩

theorem silu_eq (y : EReal) (h : ∃ r : ℝ, y = r) : siluT y = siluR y := by
  obtain ⟨r, rfl⟩ := h
  exact Spec.siluT_eq r

variable (m : (ℓ : Loc Kernel2Ideal.nD Kernel2Ideal.τ Kernel2Ideal.sig) → Buf (Elt Ideal) ℓ)

theorem LG_eq (c : Dev Kernel2Ideal.nD) : LG m c = LR (B0 m c) (B2 m c) (B3 m c) (B4 m c) := by
  funext r j
  exact lg_eq _

theorem acts_eq (c : Dev Kernel2Ideal.nD) (h0 : ∀ i, ∃ r : ℝ, B0 m c i = r) (h2 : ∀ i, ∃ r : ℝ, B2 m c i = r) :
    actsArr m c = Reference2Ideal.Read.val_main_v110 (F := Ideal) (B0 m c) (B1 m c) (B2 m c) (B3 m c) (B4 m c) := by
  funext i
  obtain ⟨r, j, rfl⟩ : ∃ (r : Fin 16384) (j : Fin 7680), i = ix2 r j := ⟨_, _, (ix2_eta i).symm⟩
  rw [Reference2Ideal.Spec.acts_at]
  exact acts_congr _ _ _ _ _ _ _ _ (LG_eq m c) hs_eq qs_eq fun r c' => silu_eq _ (hidden_real _ _ h0 h2 _ _)

theorem decay_eq (c : Dev Kernel2Ideal.nD) :
    decayArr m c = Reference2Ideal.Read.val_main_v114 (F := Ideal) (B0 m c) (B2 m c) (B3 m c) (B4 m c) := by
  funext i
  obtain ⟨r, j, rfl⟩ : ∃ (r : Fin 2048) (j : Fin 512), i = ix2 r j := ⟨_, _, (ix2_eta i).symm⟩
  rw [Reference2Ideal.Spec.decay_at, ← LG_eq]
  rfl

end Cert.Agree2
-- ==== Proof.Block3.lean ====
module

public import proofs.«01_k».proof.Proof.Gen.Kernel3Ideal.Value
public import proofs.«01_k».proof.Proof.BlockAt
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! One grid step of layer 0's output projection: two mixers' outputs where layer 1 has one. The heads and the layer normalisation are layer 1's. -/

namespace Cert.Kernel3Ideal.Own

open Cert.Kernel3Ideal Cert.Kernel3Ideal.Gen Cert.Kernel3Ideal.Value
open Cert.KernelIdeal.Own (heads norm canon_w canon_k ld_at norm_at)

variable {F : FTy → Type} [FloatOps F]

/-- The residual of 128 rows: the scaled input plus both mixers' rows and the attention's rows against their parts of the out-projection. -/
def resid (x : Vec F S128x1024 .f32) (a : Vec F S128x1024 .bf16) (wa : Vec F S1024x1024 .bf16) (b : Vec F S128x512 .bf16) (wb : Vec F S512x1024 .bf16)
    (o : Vec F S128x512 .bf16) (wo : Vec F S512x1024 .bf16) : FVec F S128x1024 .f32 :=
  k0_pay24 x a wa b wb o wo

/-- The 128 output rows from row `p` on. -/
def tile (a : Vec F S1024x1024 .bf16) (b o : Vec F S1024x512 .bf16) (x : Vec F S1024x1024 .f32) (w : Vec F S2048x1024 .bf16) (lw lb : Vec F S1x1024 .f32) (p : ℕ)
    (h : ∀ a, (![p, 0] : Fin 2 → ℕ) a + S128x1024.size a ≤ S1024x1024.size a) (h' : ∀ a, (![p, 0] : Fin 2 → ℕ) a + S128x512.size a ≤ S1024x512.size a) :
    View.Piece (Elt F) S1024x1024 .f32 :=
  ⟨Rect.unit ![p, 0] ![128, 1024] h, norm (resid (View.ld x (Rect.unit ![p, 0] ![128, 1024] h))
    (View.ld a (Rect.unit ![p, 0] ![128, 1024] h)) (View.ld w (Rect.unit ![0, 0] ![1024, 1024] inb_S2048x1024_S1024x1024_0_0))
    (View.ld b (Rect.unit ![p, 0] ![128, 512] h')) (View.ld w (Rect.unit ![1024, 0] ![512, 1024] inb_S2048x1024_S512x1024_1024_0))
    (View.ld o (Rect.unit ![p, 0] ![128, 512] h')) (View.ld w (Rect.unit ![1536, 0] ![512, 1024] inb_S2048x1024_S512x1024_1536_0))) lw lb⟩

/-- The output block of one grid point, eight row tiles. -/
def block (a : Vec F S1024x1024 .bf16) (b o : Vec F S1024x512 .bf16) (x : Vec F S1024x1024 .f32) (w : Vec F S2048x1024 .bf16) (lw lb : Vec F S1x1024 .f32) : Vec F S1024x1024 .f32 :=
  View.canon [
    tile a b o x w lw lb 896 inb_S1024x1024_S128x1024_896_0 inb_S1024x512_S128x512_896_0,
    tile a b o x w lw lb 768 inb_S1024x1024_S128x1024_768_0 inb_S1024x512_S128x512_768_0,
    tile a b o x w lw lb 640 inb_S1024x1024_S128x1024_640_0 inb_S1024x512_S128x512_640_0,
    tile a b o x w lw lb 512 inb_S1024x1024_S128x1024_512_0 inb_S1024x512_S128x512_512_0,
    tile a b o x w lw lb 384 inb_S1024x1024_S128x1024_384_0 inb_S1024x512_S128x512_384_0,
    tile a b o x w lw lb 256 inb_S1024x1024_S128x1024_256_0 inb_S1024x512_S128x512_256_0,
    tile a b o x w lw lb 128 inb_S1024x1024_S128x1024_128_0 inb_S1024x512_S128x512_128_0,
    tile a b o x w lw lb 0 inb_S1024x1024_S128x1024_0_0 inb_S1024x512_S128x512_0_0]

theorem readCov_ld {s : Shape} {e : EltTy} [∀ e, Nonempty (Elt F e)] {κ : Kind} {sp : Space} (v : View sig κ sp s e) (L : List (View.Piece (Elt F) s e)) (r : Rect s) :
    v.readCov L r.toLoadRect = View.ld (View.canon L) r :=
  View.readCov_eq_canon' v L _

variable (m : (ℓ : Loc nD τ sig) → Buf (Elt F) ℓ) (ρ : Dev nD → PrngReg)

/-- What a grid point whose batch begins, at the grid's first point, leaves. -/
theorem stA (c : Dev nD) (t : Fin cfg0.N) (acc) (h0 : t.val % 16 = 0) (h1 : t.val % 4 = 0) :
    stAt0 m c t.val t.isLt acc
      = (block (iblk m c 0 t) (iblk m c 1 t) (heads (iblk m c 2 t) (iblk m c 3 t) (k0_pay3 (iblk m c 4 t) (iblk m c 5 t)) (k0_pay4 (iblk m c 4 t) (iblk m c 6 t)))
          (iblk m c 8 t) (k0_pay1 (iblk m c 7 t)) (iblk m c 9 t) (iblk m c 10 t),
        k0_pay1 (iblk m c 7 t), k0_pay3 (iblk m c 4 t) (iblk m c 5 t), k0_pay4 (iblk m c 4 t) (iblk m c 6 t)) := by
  rw [stAt0_A m c t acc h0 h1]
  frame_out
  simp only [readCov_ld, canon_w, canon_k]
  rfl

/-- What a grid point in the middle of a batch leaves: the carried arrays stay. -/
theorem stB (c : Dev nD) (t : Fin cfg0.N) (acc) (h0 : ¬t.val % 16 = 0) (h1 : ¬t.val % 4 = 0) :
    stAt0 m c t.val t.isLt acc
      = (block (iblk m c 0 t) (iblk m c 1 t) (heads (iblk m c 2 t) (iblk m c 3 t) acc.2.2.1 acc.2.2.2)
          (iblk m c 8 t) acc.2.1 (iblk m c 9 t) (iblk m c 10 t), acc.2) := by
  rw [stAt0_B m c t acc h0 h1]
  frame_out
  simp only [readCov_ld, canon_w, canon_k, read_unread_whole]
  rfl

/-- What a grid point whose batch begins, past the first, leaves: new keys and values, the weight as carried. -/
theorem stC (c : Dev nD) (t : Fin cfg0.N) (acc) (h0 : ¬t.val % 16 = 0) (h1 : t.val % 4 = 0) :
    stAt0 m c t.val t.isLt acc
      = (block (iblk m c 0 t) (iblk m c 1 t) (heads (iblk m c 2 t) (iblk m c 3 t) (k0_pay3 (iblk m c 4 t) (iblk m c 5 t)) (k0_pay4 (iblk m c 4 t) (iblk m c 6 t)))
          (iblk m c 8 t) acc.2.1 (iblk m c 9 t) (iblk m c 10 t),
        acc.2.1, k0_pay3 (iblk m c 4 t) (iblk m c 5 t), k0_pay4 (iblk m c 4 t) (iblk m c 6 t)) := by
  rw [stAt0_C m c t acc h0 h1]
  frame_out
  simp only [readCov_ld, canon_w, canon_k, read_unread_whole]
  rfl

/-- Two rows of 1024 and of 512 as one. -/
def side (f : Fin 1024 → EReal) (g : Fin 512 → EReal) (k : Fin 1536) : EReal :=
  if h : k.val < 1024 then f ⟨k.val, h⟩ else g ⟨k.val - 1024, by omega⟩

theorem side_congr {f f' : Fin 1024 → EReal} {g g' : Fin 512 → EReal} (hf : ∀ k, f k = f' k) (hg : ∀ k, g k = g' k) (k : Fin 1536) : side f g k = side f' g' k := by
  rw [funext hf, funext hg]

theorem sum_side (f : Fin 1024 → EReal) (g : Fin 512 → EReal) (w : Fin 1536 → EReal) :
    ∑ k, side f g k * w k = (∑ k : Fin 1024, f k * w ⟨k.val, by omega⟩) + ∑ k : Fin 512, g k * w ⟨1024 + k.val, by omega⟩ := by
  refine (Fin.sum_univ_add (a := 1024) (b := 512) fun k => side f g k * w k).trans ?_
  congr 1

theorem resid_at (x : Vec Ideal S128x1024 .f32) (a : Vec Ideal S128x1024 .bf16) (wa : Vec Ideal S1024x1024 .bf16) (b : Vec Ideal S128x512 .bf16) (wb : Vec Ideal S512x1024 .bf16)
    (o : Vec Ideal S128x512 .bf16) (wo : Vec Ideal S512x1024 .bf16) (r : Fin 128) (c : Fin 1024) :
    resid (F := Ideal) x a wa b wb o wo (ix2 r c)
      = Spec.alpha * x (ix2 r c) + (((∑ k : Fin 1024, a (ix2 r k) * wa (ix2 k c)) + ∑ k : Fin 512, b (ix2 r k) * wb (ix2 k c)) + ∑ k : Fin 512, o (ix2 r k) * wo (ix2 k c)) := by
  unfold resid
  open_payloads
  pointwise
  rw [add_assoc, add_assoc, add_assoc]
  rfl

theorem tile_at (a : Vec Ideal S1024x1024 .bf16) (b o : Vec Ideal S1024x512 .bf16) (x : Vec Ideal S1024x1024 .f32) (w : Vec Ideal S2048x1024 .bf16) (lw lb : Vec Ideal S1x1024 .f32) (p : ℕ)
    (h) (h') (r : Fin 1024) (r' : Fin 128) (c : Fin 1024) (e : r.val = p + r'.val) :
    (tile (F := Ideal) a b o x w lw lb p h h').2 (ix2 r' c)
      = Spec.norm (fun c => Spec.resid (x (ix2 r c)) (side (fun k => a (ix2 r k)) fun k => b (ix2 r k)) (fun k => w (ix2 ⟨k.val, by omega⟩ c)) (fun k => o (ix2 r k)) (fun k => w (ix2 ⟨1536 + k.val, by omega⟩ c)))
          (lw (ix2 0 c)) (lb (ix2 0 c)) c := by
  show norm (F := Ideal) (resid _ _ _ _ _ _ _) lw lb (ix2 r' c) = _
  rw [norm_at]
  refine Spec.norm_congr (fun j => ?_) rfl rfl c
  rw [resid_at]
  unfold Spec.resid
  rw [sum_side]
  congr 1
  · congr 1
    exact ld_at _ _ _ _ _ _ _ _ e (by omega)
  · congr 1
    · congr 1
      · refine Finset.sum_congr rfl fun k _ => ?_
        exact congrArg₂ (fun x y : EReal => x * y) (ld_at _ _ _ _ _ _ _ _ e (by omega)) (ld_at _ _ _ _ _ _ _ _ (Nat.zero_add _).symm (by omega))
      · refine Finset.sum_congr rfl fun k _ => ?_
        exact congrArg₂ (fun x y : EReal => x * y) (ld_at _ _ _ _ _ _ _ _ e (by omega)) (ld_at _ _ _ _ _ _ _ _ rfl (by omega))
    · refine Finset.sum_congr rfl fun k _ => ?_
      exact congrArg₂ (fun x y : EReal => x * y) (ld_at _ _ _ _ _ _ _ _ e (by omega)) (ld_at _ _ _ _ _ _ _ _ rfl (by omega))

theorem block_at (a : Vec Ideal S1024x1024 .bf16) (b o : Vec Ideal S1024x512 .bf16) (x : Vec Ideal S1024x1024 .f32) (w : Vec Ideal S2048x1024 .bf16) (lw lb : Vec Ideal S1x1024 .f32)
    (r : Fin 1024) (c : Fin 1024) :
    block (F := Ideal) a b o x w lw lb (ix2 r c)
      = Spec.norm (fun c => Spec.resid (x (ix2 r c)) (side (fun k => a (ix2 r k)) fun k => b (ix2 r k)) (fun k => w (ix2 ⟨k.val, by omega⟩ c)) (fun k => o (ix2 r k)) (fun k => w (ix2 ⟨1536 + k.val, by omega⟩ c)))
          (lw (ix2 0 c)) (lb (ix2 0 c)) c := by
  unfold block
  simp only [tile]
  canon_tiles y h
  all_goals
    obtain ⟨r', d, rfl⟩ : ∃ r' d, y = ix2 r' d := ⟨_, _, (ix2_eta y).symm⟩
    obtain rfl : c = d := Fin.ext h1
    change (r : ℕ) = _ at h0
    exact tile_at a b o x w lw lb _ _ _ r r' c (by first | exact h0 | exact h0.trans (Nat.zero_add _).symm)

end Cert.Kernel3Ideal.Own
-- ==== Proof.Blk3.lean ====
module

public import proofs.«01_k».proof.Proof.Gen.Kernel3Ideal.Value
public import proofs.«01_k».proof.Proof.Spec
public import Idealize.ShloMosaic.Lib.Pointwise
public import Idealize.ShloMosaic.Lib.StableHlo.RunRead
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! Layer 0's output projection: its input blocks, entry by entry, from the arguments. -/

namespace Cert.Kernel3Ideal.Own

open Cert.Kernel3Ideal Cert.Kernel3Ideal.Gen Cert.Kernel3Ideal.Value

variable (m : (ℓ : Loc nD τ sig) → Buf (Elt Ideal) ℓ)

theorem idx : ∀ t : Fin cfg0.N, win0_0.index t = ![t.val, 0] ∧ win0_1.index t = ![t.val, 0] ∧ win0_2.index t = ![t.val, 13] ∧ win0_3.index t = ![t.val, 14] ∧ win0_4.index t = ![t.val / 4, 0, 0]
    ∧ win0_5.index t = ![0, 0] ∧ win0_6.index t = ![0, 0] ∧ win0_7.index t = ![0, 0] ∧ win0_8.index t = ![t.val, 0] ∧ win0_9.index t = ![0, 0] ∧ win0_10.index t = ![0, 0] :=
  (by decide +kernel : ∀ t : Fin grid0.N, _)

/-- The kernel's arguments as launched on a device. -/
abbrev A0 (c : Dev nD) : FVec Ideal S4x4096x1024 .f32 := m ((c : Thread nD τ).loc main_arg0)
abbrev A1 (c : Dev nD) : FVec Ideal S4x4096x512 .f32 := m ((c : Thread nD τ).loc main_arg1)
abbrev A2 (c : Dev nD) : FVec Ideal S4x4096x512 .f32 := m ((c : Thread nD τ).loc main_arg2)
abbrev A3 (c : Dev nD) : FVec Ideal S4x4096x512 .f32 := m ((c : Thread nD τ).loc main_arg3)
abbrev A4 (c : Dev nD) : FVec Ideal S4x256x1024 .f32 := m ((c : Thread nD τ).loc main_arg4)
abbrev A5 (c : Dev nD) : FVec Ideal S1024x512 .f32 := m ((c : Thread nD τ).loc main_arg5)
abbrev A6 (c : Dev nD) : FVec Ideal S1024x512 .f32 := m ((c : Thread nD τ).loc main_arg6)
abbrev A7 (c : Dev nD) : FVec Ideal S2048x1024 .f32 := m ((c : Thread nD τ).loc main_arg7)
abbrev A8 (c : Dev nD) : FVec Ideal S4x4096x1024 .f32 := m ((c : Thread nD τ).loc main_arg8)
abbrev A9 (c : Dev nD) : FVec Ideal S1024 .f32 := m ((c : Thread nD τ).loc main_arg9)
abbrev A10 (c : Dev nD) : FVec Ideal S1024 .f32 := m ((c : Thread nD τ).loc main_arg10)

/-- The batch of a grid point, and the place of its block's row within the batch. -/
def bat (t : Fin cfg0.N) : Fin 4 := ⟨t.val / 4, by have := t.isLt; have : cfg0.N = 16 := N_0; omega⟩
def pos (t : Fin cfg0.N) (r : Fin 1024) : Fin 4096 := ⟨t.val % 4 * 1024 + r.val, by omega⟩

theorem iblk0_at (c : Dev nD) (t : Fin cfg0.N) (r : Fin 1024) (d : Fin 1024) :
    (iblk m c 0 t : Vec Ideal S1024x1024 .bf16) (ix2 r d) = A0 m c (ix3 (bat t) (pos t r) d) := by
  unfold bat pos
  blk_point [iblk, V, idx t]

theorem iblk1_at (c : Dev nD) (t : Fin cfg0.N) (r : Fin 1024) (d : Fin 512) :
    (iblk m c 1 t : Vec Ideal S1024x512 .bf16) (ix2 r d) = A1 m c (ix3 (bat t) (pos t r) d) := by
  unfold bat pos
  blk_point [iblk, V, idx t]

/-- The scaled queries, half the gates' arguments, and the gates, as the host prepares them. -/
def qArr (c : Dev nD) : FVec Ideal S16384x512 .f32 :=
  mulf (shapeCast S16384x512 (A2 m c) shapeCasts_S4x4096x512_S16384x512)
    (broadcastInDim S16384x512 ![] bcast_S_S16384x512 (Host.divf (Host.rsqrt (constant S_ .f32 0x43000000#32)) (Host.log (constant S_ .f32 0x40000000#32))))
def hArr (c : Dev nD) : FVec Ideal S16384x512 .f32 :=
  mulf (broadcastInDim S16384x512 ![] bcast_S_S16384x512 (constant S_ .f32 0x3F000000#32)) (shapeCast S16384x512 (A3 m c) shapeCasts_S4x4096x512_S16384x512)
def gArr (c : Dev nD) : FVec Ideal S16384x512 .f32 := addf (hArr m c) (mulf (hArr m c) (Host.tanh (hArr m c)))

theorem q_at (c : Dev nD) (r : Fin 16384) (d : Fin 512) :
    qArr m c (ix2 r d) = A2 m c (ix3 ⟨r.val / 4096, by omega⟩ ⟨r.val % 4096, by omega⟩ d) * Ideal.div (Ideal.rsqrt (Ideal.ofBits .f32 0x43000000#32)) (Ideal.log (Ideal.ofBits .f32 0x40000000#32)) := by
  pointwise [qArr]

theorem h_at (c : Dev nD) (r : Fin 16384) (d : Fin 512) :
    hArr m c (ix2 r d) = Spec.half * A3 m c (ix3 ⟨r.val / 4096, by omega⟩ ⟨r.val % 4096, by omega⟩ d) := by
  pointwise [hArr]
  rfl

theorem g_at (c : Dev nD) (r : Fin 16384) (d : Fin 512) :
    gArr m c (ix2 r d) = Spec.siluT (A3 m c (ix3 ⟨r.val / 4096, by omega⟩ ⟨r.val % 4096, by omega⟩ d)) := by
  show hArr m c (ix2 r d) + hArr m c (ix2 r d) * Ideal.tanh (hArr m c (ix2 r d)) = _
  rw [h_at]
  rfl

theorem cat_at (z : FVec Ideal S16384x6656 .f32) (q g : FVec Ideal S16384x512 .f32)
    (h : Shape.Concatenates [S16384x6656, S16384x512, S16384x512] S16384x7680 1) (r : Fin 16384) (d : Fin 7680) :
    (concatenate S16384x7680 1 [⟨S16384x6656, z⟩, ⟨S16384x512, q⟩, ⟨S16384x512, g⟩] h : FVec Ideal S16384x7680 .f32) (ix2 r d)
      = if h : d.val < 6656 then z (ix2 r ⟨d.val, h⟩)
        else if h' : d.val - 6656 < 512 then q (ix2 r ⟨d.val - 6656, h'⟩) else g (ix2 r ⟨d.val - 6656 - 512, by omega⟩) := by
  pointwise

/-- The prepared attention operands: in the last 1024 columns the scaled queries beside the gates. -/
theorem acts_eq (c : Dev nD) :
    (V m c main_v14 : Vec Ideal S16384x7680 .bf16)
      = truncf .bf16 (concatenate S16384x7680 1 [⟨S16384x6656, broadcastInDim S16384x6656 ![] bcast_S_S16384x6656 (constant S_ .f32 0x00000000#32)⟩,
          ⟨S16384x512, qArr m c⟩, ⟨S16384x512, gArr m c⟩] concatenates_S16384x6656_S16384x512_S16384x512_S16384x7680_d1) bitsLt_bf16_f32 := by
  unfold V
  after_reads_simp
  rfl

theorem acts_q (c : Dev nD) (r : Fin 16384) (d : Fin 512) (h : 6656 + d.val < 7680) :
    (V m c main_v14 : Vec Ideal S16384x7680 .bf16) (ix2 r ⟨6656 + d.val, h⟩)
      = A2 m c (ix3 ⟨r.val / 4096, by omega⟩ ⟨r.val % 4096, by omega⟩ d) * Ideal.div (Ideal.rsqrt (Ideal.ofBits .f32 0x43000000#32)) (Ideal.log (Ideal.ofBits .f32 0x40000000#32)) := by
  rw [acts_eq]
  refine (cat_at _ (qArr m c) (gArr m c) concatenates_S16384x6656_S16384x512_S16384x512_S16384x7680_d1 r ⟨6656 + d.val, h⟩).trans ?_
  rw [dif_neg (show ¬ 6656 + d.val < 6656 by omega), dif_pos (show 6656 + d.val - 6656 < 512 by omega)]
  simp only [Nat.add_sub_cancel_left]
  exact q_at m c r d

theorem acts_g (c : Dev nD) (r : Fin 16384) (d : Fin 512) (h : 7168 + d.val < 7680) :
    (V m c main_v14 : Vec Ideal S16384x7680 .bf16) (ix2 r ⟨7168 + d.val, h⟩)
      = Spec.siluT (A3 m c (ix3 ⟨r.val / 4096, by omega⟩ ⟨r.val % 4096, by omega⟩ d)) := by
  rw [acts_eq]
  refine (cat_at _ (qArr m c) (gArr m c) concatenates_S16384x6656_S16384x512_S16384x512_S16384x7680_d1 r ⟨7168 + d.val, h⟩).trans ?_
  have e : (⟨7168 + d.val - 6656 - 512, by omega⟩ : Fin 512) = d := Fin.ext (by show 7168 + d.val - 6656 - 512 = d.val; omega)
  rw [dif_neg (show ¬ 7168 + d.val < 6656 by omega), dif_neg (show ¬ 7168 + d.val - 6656 < 512 by omega)]
  rw [e]
  exact g_at m c r d

theorem acts2 (c : Dev nD) (t : Fin cfg0.N) (r : Fin 1024) (d : Fin 512) :
    (iblk m c 2 t : Vec Ideal S1024x512 .bf16) (ix2 r d)
      = (V m c main_v14 : Vec Ideal S16384x7680 .bf16) (ix2 ⟨t.val * 1024 + r.val, by have := t.isLt; have : cfg0.N = 16 := N_0; omega⟩ ⟨6656 + d.val, by omega⟩) := by
  generalize hV : (V m c main_v14 : Vec Ideal S16384x7680 .bf16) = W
  unfold iblk
  change View.read (Elt Ideal) ((cfg0.win 2).blk t).view (V m c main_v14) (ix2 r d) = _
  rw [hV]
  blk_ext [idx t]

theorem acts3 (c : Dev nD) (t : Fin cfg0.N) (r : Fin 1024) (d : Fin 512) :
    (iblk m c 3 t : Vec Ideal S1024x512 .bf16) (ix2 r d)
      = (V m c main_v14 : Vec Ideal S16384x7680 .bf16) (ix2 ⟨t.val * 1024 + r.val, by have := t.isLt; have : cfg0.N = 16 := N_0; omega⟩ ⟨7168 + d.val, by omega⟩) := by
  generalize hV : (V m c main_v14 : Vec Ideal S16384x7680 .bf16) = W
  unfold iblk
  change View.read (Elt Ideal) ((cfg0.win 3).blk t).view (V m c main_v14) (ix2 r d) = _
  rw [hV]
  blk_ext [idx t]

theorem bat_eq (t : Fin cfg0.N) (r : Fin 1024) (h) : (⟨(t.val * 1024 + r.val) / 4096, h⟩ : Fin 4) = bat t :=
  Fin.ext (by show (t.val * 1024 + r.val) / 4096 = t.val / 4; omega)
theorem pos_eq (t : Fin cfg0.N) (r : Fin 1024) (h) : (⟨(t.val * 1024 + r.val) % 4096, h⟩ : Fin 4096) = pos t r :=
  Fin.ext (by show (t.val * 1024 + r.val) % 4096 = t.val % 4 * 1024 + r.val; omega)

theorem iblk2_at (c : Dev nD) (t : Fin cfg0.N) (r : Fin 1024) (d : Fin 512) :
    (iblk m c 2 t : Vec Ideal S1024x512 .bf16) (ix2 r d) = A2 m c (ix3 (bat t) (pos t r) d) * Ideal.div (Ideal.rsqrt (Ideal.ofBits .f32 0x43000000#32)) (Ideal.log (Ideal.ofBits .f32 0x40000000#32)) := by
  rw [acts2, acts_q]
  simp only [bat_eq, pos_eq]

theorem iblk3_at (c : Dev nD) (t : Fin cfg0.N) (r : Fin 1024) (d : Fin 512) :
    (iblk m c 3 t : Vec Ideal S1024x512 .bf16) (ix2 r d) = Spec.siluT (A3 m c (ix3 (bat t) (pos t r) d)) := by
  rw [acts3, acts_g]
  simp only [bat_eq, pos_eq]

theorem iblk4_at (c : Dev nD) (t : Fin cfg0.N) (r : Fin 256) (d : Fin 1024) :
    (iblk m c 4 t : Vec Ideal S1x256x1024 .f32) (ix3 0 r d) = A4 m c (ix3 (bat t) r d) := by
  unfold bat
  blk_point [iblk, V, idx t]

theorem iblk5_at (c : Dev nD) (t : Fin cfg0.N) (r : Fin 1024) (d : Fin 512) :
    (iblk m c 5 t : Vec Ideal S1024x512 .f32) (ix2 r d) = A5 m c (ix2 r d) := by
  blk_point [iblk, V, idx t]

theorem iblk6_at (c : Dev nD) (t : Fin cfg0.N) (r : Fin 1024) (d : Fin 512) :
    (iblk m c 6 t : Vec Ideal S1024x512 .f32) (ix2 r d) = A6 m c (ix2 r d) := by
  blk_point [iblk, V, idx t]

theorem iblk7_at (c : Dev nD) (t : Fin cfg0.N) (r : Fin 2048) (d : Fin 1024) :
    (iblk m c 7 t : Vec Ideal S2048x1024 .f32) (ix2 r d) = A7 m c (ix2 r d) := by
  blk_point [iblk, V, idx t]

theorem iblk8_at (c : Dev nD) (t : Fin cfg0.N) (r : Fin 1024) (d : Fin 1024) :
    (iblk m c 8 t : Vec Ideal S1024x1024 .f32) (ix2 r d) = A8 m c (ix3 (bat t) (pos t r) d) := by
  unfold bat pos
  blk_point [iblk, V, idx t]

theorem iblk9_at (c : Dev nD) (t : Fin cfg0.N) (d : Fin 1024) :
    (iblk m c 9 t : Vec Ideal S1x1024 .f32) (ix2 0 d) = A9 m c (ix1 d) := by
  blk_point [iblk, V, idx t]

theorem iblk10_at (c : Dev nD) (t : Fin cfg0.N) (d : Fin 1024) :
    (iblk m c 10 t : Vec Ideal S1x1024 .f32) (ix2 0 d) = A10 m c (ix1 d) := by
  blk_point [iblk, V, idx t]

end Cert.Kernel3Ideal.Own
-- ==== Proof.Fold3.lean ====
module

public import proofs.«01_k».proof.Proof.Block3
public import proofs.«01_k».proof.Proof.Blk3

@[expose] public section

set_option maxRecDepth 16384

noncomputable section

open Idealize.ShloMosaic Idealize.ShloMosaic.TcCoe Idealize.SL.Sem
open Idealize.ShloMosaic.Pipeline (Dat)

/-! The grid's points in order, for layer 0's output projection: what each leaves, and the result array. -/

namespace Cert.Kernel3Ideal.Own

open Cert.Kernel3Ideal Cert.Kernel3Ideal.Gen Cert.Kernel3Ideal.Value
open Cert.KernelIdeal.Own (heads heads_at col)

theorem wb_at (w : Vec Ideal S2048x1024 .f32) (r : Fin 2048) (c : Fin 1024) : k0_pay1 (F := Ideal) w (ix2 r c) = w (ix2 r c) := by
  open_payloads
  pointwise

theorem key_at (x : Vec Ideal S1x256x1024 .f32) (w : Vec Ideal S1024x512 .f32) (n : Fin 256) (c : Fin 512) :
    k0_pay3 (F := Ideal) x w (ix2 n c) = ∑ k : Fin 1024, x (ix3 0 n k) * w (ix2 k c) := by
  open_payloads
  pointwise

theorem value_at (x : Vec Ideal S1x256x1024 .f32) (w : Vec Ideal S1024x512 .f32) (n : Fin 256) (c : Fin 512) :
    k0_pay4 (F := Ideal) x w (ix2 n c) = ∑ k : Fin 1024, x (ix3 0 n k) * w (ix2 k c) := by
  open_payloads
  pointwise

variable (m : (ℓ : Loc nD τ sig) → Buf (Elt Ideal) ℓ)

/-- The rounded weight and one batch's keys and values, as the carried arrays hold them at a point. -/
def wgt (c : Dev nD) (t : Fin cfg0.N) : Vec Ideal S2048x1024 .bf16 := k0_pay1 (iblk m c 7 t)
def keys (c : Dev nD) (t : Fin cfg0.N) : Vec Ideal S256x512 .bf16 := k0_pay3 (iblk m c 4 t) (iblk m c 5 t)
def vals (c : Dev nD) (t : Fin cfg0.N) : Vec Ideal S256x512 .bf16 := k0_pay4 (iblk m c 4 t) (iblk m c 6 t)

theorem wgt_at (c : Dev nD) (t : Fin cfg0.N) (r : Fin 2048) (j : Fin 1024) : wgt m c t (ix2 r j) = A7 m c (ix2 r j) :=
  (wb_at _ r j).trans (iblk7_at m c t r j)

theorem keys_at (c : Dev nD) (t : Fin cfg0.N) (n : Fin 256) (j : Fin 512) :
    keys m c t (ix2 n j) = ∑ k : Fin 1024, A4 m c (ix3 (bat t) n k) * A5 m c (ix2 k j) :=
  (key_at _ _ n j).trans (Finset.sum_congr rfl fun k _ => by rw [iblk4_at m c t n k, iblk5_at m c t k j])

theorem vals_at (c : Dev nD) (t : Fin cfg0.N) (n : Fin 256) (j : Fin 512) :
    vals m c t (ix2 n j) = ∑ k : Fin 1024, A4 m c (ix3 (bat t) n k) * A6 m c (ix2 k j) :=
  (value_at _ _ n j).trans (Finset.sum_congr rfl fun k _ => by rw [iblk4_at m c t n k, iblk6_at m c t k j])

theorem wgt_eq (c : Dev nD) (t t' : Fin cfg0.N) : wgt m c t = wgt m c t' := by
  funext i
  obtain ⟨r, j, rfl⟩ : ∃ r j, i = ix2 r j := ⟨_, _, (ix2_eta i).symm⟩
  rw [wgt_at, wgt_at]

theorem keys_eq (c : Dev nD) (t t' : Fin cfg0.N) (h : bat t = bat t') : keys m c t = keys m c t' := by
  funext i
  obtain ⟨r, j, rfl⟩ : ∃ r j, i = ix2 r j := ⟨_, _, (ix2_eta i).symm⟩
  rw [keys_at, keys_at, h]

theorem vals_eq (c : Dev nD) (t t' : Fin cfg0.N) (h : bat t = bat t') : vals m c t = vals m c t' := by
  funext i
  obtain ⟨r, j, rfl⟩ : ∃ r j, i = ix2 r j := ⟨_, _, (ix2_eta i).symm⟩
  rw [vals_at, vals_at, h]

/-- The output block of a grid point. -/
def outBlk (c : Dev nD) (t : Fin cfg0.N) : Vec Ideal S1024x1024 .f32 :=
  block (iblk m c 0 t) (iblk m c 1 t) (heads (iblk m c 2 t) (iblk m c 3 t) (keys m c t) (vals m c t)) (iblk m c 8 t) (wgt m c t) (iblk m c 9 t) (iblk m c 10 t)

/-- What a grid point leaves: its output block, and the carried arrays at the launch's weight and its batch's keys and values. -/
def left (c : Dev nD) (t : Fin cfg0.N) : Vec Ideal S1024x1024 .f32 × Vec Ideal S2048x1024 .bf16 × Vec Ideal S256x512 .bf16 × Vec Ideal S256x512 .bf16 :=
  (outBlk m c t, wgt m c t, keys m c t, vals m c t)

theorem step_left (c : Dev nD) (n : ℕ) (h : n + 1 < cfg0.N) :
    stAt0 m c (n + 1) h (left m c ⟨n, Nat.lt_of_succ_lt h⟩) = left m c ⟨n + 1, h⟩ := by
  have hN : cfg0.N = 16 := N_0
  have h0 : ¬(n + 1) % 16 = 0 := by omega
  have ew := wgt_eq m c ⟨n, Nat.lt_of_succ_lt h⟩ ⟨n + 1, h⟩
  by_cases h1 : (n + 1) % 4 = 0
  · rw [stC m c ⟨n + 1, h⟩ _ h0 h1]
    unfold left outBlk
    rw [ew]
    rfl
  · have hb : bat ⟨n, Nat.lt_of_succ_lt h⟩ = bat ⟨n + 1, h⟩ := Fin.ext (by show n / 4 = (n + 1) / 4; omega)
    rw [stB m c ⟨n + 1, h⟩ _ h0 h1]
    unfold left outBlk
    rw [ew, keys_eq m c _ _ hb, vals_eq m c _ _ hb]

theorem acc_left (c : Dev nD) : ∀ (n : ℕ) (h : 0 + n < cfg0.N) (h' : n < cfg0.N),
    Pipeline.accAt (fun n h => stAt0 m c n h junk0) (stAt0 m c) 0 n h = left m c ⟨n, h'⟩
  | 0, h, h' => (stA m c ⟨0, h'⟩ _ rfl rfl)
  | n + 1, h, h' => by
    rw [Pipeline.accAt_succ, acc_left c n _ (Nat.lt_of_succ_lt h')]
    have e : ∀ (k : ℕ) (hk : k < cfg0.N), k = n + 1 → stAt0 m c k hk (left m c ⟨n, Nat.lt_of_succ_lt h'⟩) = left m c ⟨n + 1, h'⟩ := by
      rintro k hk rfl
      exact step_left m c n h'
    exact e _ h (by omega)

/-- One entry of the gated attention, from the launch's arguments: batch `b`, place `p`, column `k`. -/
def mixed (c : Dev nD) (b : Fin 4) (p : Fin 4096) (k : Fin 512) : EReal :=
  Spec.attPost
    (fun n => ∑ e : Fin 128, (A2 m c (ix3 b p (col k e)) * Ideal.div (Ideal.rsqrt (Ideal.ofBits .f32 0x43000000#32)) (Ideal.log (Ideal.ofBits .f32 0x40000000#32)))
      * ∑ i : Fin 1024, A4 m c (ix3 b n i) * A5 m c (ix2 i (col k e)))
    (fun n => ∑ i : Fin 1024, A4 m c (ix3 b n i) * A6 m c (ix2 i k))
  * Spec.siluT (A3 m c (ix3 b p k))

theorem heads_mixed (c : Dev nD) (t : Fin cfg0.N) (r : Fin 1024) (k : Fin 512) :
    heads (F := Ideal) (iblk m c 2 t) (iblk m c 3 t) (keys m c t) (vals m c t) (ix2 r k) = mixed m c (bat t) (pos t r) k :=
  (heads_at _ _ _ _ r k).trans (Spec.attPost_congr
    (fun n => Finset.sum_congr rfl fun e _ => congrArg₂ (fun x y : EReal => x * y) (iblk2_at m c t r (col k e)) (keys_at m c t n (col k e)))
    (fun n => vals_at m c t n k) (iblk3_at m c t r k))

/-- One entry of the result, from the launch's arguments. -/
def entry (c : Dev nD) (b : Fin 4) (p : Fin 4096) (j : Fin 1024) : EReal :=
  Spec.norm (fun j => Spec.resid (A8 m c (ix3 b p j)) (side (fun k => A0 m c (ix3 b p k)) fun k => A1 m c (ix3 b p k)) (fun k => A7 m c (ix2 ⟨k.val, by omega⟩ j))
    (fun k => mixed m c b p k) (fun k => A7 m c (ix2 ⟨1536 + k.val, by omega⟩ j))) (A9 m c (ix1 j)) (A10 m c (ix1 j)) j

theorem outBlk_at (c : Dev nD) (t : Fin cfg0.N) (r j : Fin 1024) : outBlk m c t (ix2 r j) = entry m c (bat t) (pos t r) j :=
  (block_at _ _ _ _ _ _ _ r j).trans (Spec.norm_congr
    (fun i => Spec.resid_congr (iblk8_at m c t r i) (side_congr (fun k => iblk0_at m c t r k) fun k => iblk1_at m c t r k) (fun k => wgt_at m c t _ i) (fun k => heads_mixed m c t r k) (fun k => wgt_at m c t _ i))
    (iblk9_at m c t j) (iblk10_at m c t j) j)

theorem left_fst (c : Dev nD) (t : Fin cfg0.N) : (left m c t).1 = outBlk m c t := by
  rw [left]

theorem acc_fst (c : Dev nD) (n : ℕ) (hn : n < cfg0.N) (k : ℕ) (hk : 0 + k < cfg0.N) (e : k = n) :
    (Pipeline.accAt (fun n h => stAt0 m c n h junk0) (stAt0 m c) 0 k hk).1 = outBlk m c ⟨n, hn⟩ := by
  subst e
  exact (congrArg Prod.fst (acc_left m c k hk hn)).trans (left_fst m c ⟨k, hn⟩)

theorem pt_eq (r : Fin 16384) (j : Fin 1024) (t : Fin cfg0.N) (r' : Fin 1024) (h : r.val = t.val * 1024 + r'.val) : pt11Of (ix2 r j) = t.val := by
  change 1 * (r.val / 1024 - 0) + 1 * (j.val / 1024 - 0) = t.val
  omega

theorem loc_eq (r : Fin 16384) (j : Fin 1024) (t : Fin cfg0.N) (r' : Fin 1024) (h : r.val = t.val * 1024 + r'.val) : loc11Of (ix2 r j) = ix2 r' j := by
  funext a
  apply Fin.ext
  fin_cases a
  · change r.val % 1024 = r'.val
    omega
  · change j.val % 1024 = j.val
    omega

/-- The result array at a row and a column. -/
theorem G11_at (c : Dev nD) (r : Fin 16384) (j : Fin 1024) (t : Fin cfg0.N) (r' : Fin 1024) (h : r.val = t.val * 1024 + r'.val) :
    (G11 m c : FVec Ideal S16384x1024 .f32) (ix2 r j) = outBlk m c t (ix2 r' j) := by
  have hp := pt_eq r j t r' h
  unfold G11
  rw [dif_pos (show pt11Of (ix2 r j) < cfg0.N by rw [hp]; exact t.isLt), acc_fst m c t.val t.isLt _ _ hp, loc_eq r j t r' h]

end Cert.Kernel3Ideal.Own
-- ==== Proof.Agree3.lean ====
module

public import proofs.«01_k».proof.Proof.Fold3
public import proofs.«01_k».proof.Proof.Agree
public import proofs.«01_k».proof.Proof.Gen.Reference3Ideal.Read
public import proofs.«01_k».proof.Proof.Gen.Pre_finite3

@[expose] public section

set_option maxRecDepth 16384

noncomputable section

open Idealize.ShloMosaic Idealize.ShloMosaic.TcCoe Idealize.SL.Sem

/-! Layer 0's output projection: its reference is layer 1's at the two mixers' outputs side by side, and the two programs' results are one array. -/

namespace Cert.Pre_finite3.Own

open Cert.Pre_finite3 Cert.Pre_finite.Own

theorem reals [Facts] {a0 a1 a2 a3 a4 a5 a6 a7 a8 a9 a10} (h : Cert.Pre_finite3.fn (F := Ideal) a0 a1 a2 a3 a4 a5 a6 a7 a8 a9 a10 = fun _ => 1#1) :
    (∀ i, ∃ r : ℝ, a2 i = r) ∧ (∀ i, ∃ r : ℝ, a3 i = r) ∧ (∀ i, ∃ r : ℝ, a4 i = r) ∧ (∀ i, ∃ r : ℝ, a5 i = r) ∧ (∀ i, ∃ r : ℝ, a6 i = r) := by
  have e := congrFun h (Shape.Idx.first Facts.h_S_)
  unfold fn fn_part1 at e
  obtain ⟨e, e5⟩ := and_one e
  obtain ⟨e, e4⟩ := and_one e
  obtain ⟨e, e3⟩ := and_one e
  obtain ⟨e1, e2⟩ := and_one e
  exact ⟨all_real _ _ _ _ e1, all_real _ _ _ _ e2, all_real _ _ _ _ e3, all_real _ _ _ _ e4, all_real _ _ _ _ e5⟩

end Cert.Pre_finite3.Own

namespace Cert.Agree3

open Cert.Kernel3Ideal Cert.Kernel3Ideal.Own Cert.Agree
open Cert.KernelIdeal.Own (col)

section Reference
variable (x0 : (⟨Cert.Reference3Ideal.S4x4096x1024, .f32⟩ : BufTy).Contents (Elt Ideal)) (x1 x2 x3 : (⟨Cert.Reference3Ideal.S4x4096x512, .f32⟩ : BufTy).Contents (Elt Ideal))
  (x4 : (⟨Cert.Reference3Ideal.S4x256x1024, .f32⟩ : BufTy).Contents (Elt Ideal)) (x5 x6 : (⟨Cert.Reference3Ideal.S1024x512, .f32⟩ : BufTy).Contents (Elt Ideal))
  (x7 : (⟨Cert.Reference3Ideal.S2048x1024, .f32⟩ : BufTy).Contents (Elt Ideal)) (x8 : (⟨Cert.Reference3Ideal.S4x4096x1024, .f32⟩ : BufTy).Contents (Elt Ideal))
  (x9 x10 : (⟨Cert.Reference3Ideal.S1024, .f32⟩ : BufTy).Contents (Elt Ideal))

/-- The two mixers' outputs side by side. -/
theorem both_at (b : Fin 4) (p : Fin 4096) (k : Fin 1536) :
    Cert.Reference3Ideal.Read.val_main_v0 (F := Ideal) x0 x1 (ix3 b p k) = side (fun k => x0 (ix3 b p k)) (fun k => x1 (ix3 b p k)) k := by
  pointwise [Cert.Reference3Ideal.Read.val_main_v0]
  rfl

theorem reference_eq :
    Cert.Reference3Ideal.Read.val_main_v55 (F := Ideal) x0 x1 x2 x3 x4 x5 x6 x7 x8 x9 x10
      = ReferenceIdeal.Read.val_main_v54 (F := Ideal) (Cert.Reference3Ideal.Read.val_main_v0 (F := Ideal) x0 x1) x2 x3 x4 x5 x6 x7 x8 x9 x10 := rfl

end Reference

variable (m : (ℓ : Loc nD τ sig) → Buf (Elt Ideal) ℓ)

theorem mixed_eq (c : Dev nD) (h2 : ∀ i, ∃ r : ℝ, A2 m c i = r) (h3 : ∀ i, ∃ r : ℝ, A3 m c i = r) (h4 : ∀ i, ∃ r : ℝ, A4 m c i = r)
    (h5 : ∀ i, ∃ r : ℝ, A5 m c i = r) (h6 : ∀ i, ∃ r : ℝ, A6 m c i = r) (b : Fin 4) (p : Fin 4096) (k : Fin 512) :
    mixed m c b p k = ReferenceIdeal.Read.val_main_v24 (F := Ideal) (A2 m c) (A3 m c) (A4 m c) (A5 m c) (A6 m c) (ix3 b p k) := by
  choose r2 e2 using h2
  choose r3 e3 using h3
  choose r4 e4 using h4
  choose r5 e5 using h5
  choose r6 e6 using h6
  rw [ReferenceIdeal.Spec.om_at]
  unfold mixed
  have ec : ∀ e, ReferenceIdeal.Spec.hcol ⟨k.val / 128, by omega⟩ e = col k e := fun _ => rfl
  simp only [ReferenceIdeal.Spec.score_at, ec, scale_eq]
  simp only [rsqrt_128, e2, e3, e4, e5, e6]
  exact gated_eq (fun e => r2 (ix3 b p (col k e))) (fun n i => r4 (ix3 b n i)) (fun i e => r5 (ix2 i (col k e))) (fun i => r6 (ix2 i k)) (r3 (ix3 b p k))

theorem entry_eq (c : Dev nD) (h2 : ∀ i, ∃ r : ℝ, A2 m c i = r) (h3 : ∀ i, ∃ r : ℝ, A3 m c i = r) (h4 : ∀ i, ∃ r : ℝ, A4 m c i = r)
    (h5 : ∀ i, ∃ r : ℝ, A5 m c i = r) (h6 : ∀ i, ∃ r : ℝ, A6 m c i = r) :
    (Value.G11 m c : FVec Ideal S16384x1024 .f32)
      = Cert.Reference3Ideal.Read.val_main_v55 (F := Ideal) (A0 m c) (A1 m c) (A2 m c) (A3 m c) (A4 m c) (A5 m c) (A6 m c) (A7 m c) (A8 m c) (A9 m c) (A10 m c) := by
  have hN : cfg0.N = 16 := Gen.N_0
  rw [reference_eq]
  funext i
  obtain ⟨r, j, rfl⟩ : ∃ (r : Fin 16384) (j : Fin 1024), i = ix2 r j := ⟨_, _, (ix2_eta i).symm⟩
  have ht : r.val / 1024 < cfg0.N := by omega
  rw [G11_at m c r j ⟨r.val / 1024, ht⟩ ⟨r.val % 1024, by omega⟩ (by show r.val = r.val / 1024 * 1024 + r.val % 1024; omega), outBlk_at]
  refine Eq.trans ?_ (ReferenceIdeal.Spec.out_at _ _ _ _ _ _ _ _ _ _ r j).symm
  have eb : bat ⟨r.val / 1024, ht⟩ = (⟨r.val / 4096, by omega⟩ : Fin 4) := Fin.ext (by show r.val / 1024 / 4 = r.val / 4096; omega)
  have ep : pos ⟨r.val / 1024, ht⟩ ⟨r.val % 1024, by omega⟩ = (⟨r.val % 4096, by omega⟩ : Fin 4096) :=
    Fin.ext (by show r.val / 1024 % 4 * 1024 + r.val % 1024 = r.val % 4096; omega)
  rw [eb, ep]
  unfold entry
  refine Spec.norm_congr (fun l => ?_) rfl rfl j
  rw [ReferenceIdeal.Spec.y_at]
  exact Spec.resid_congr rfl (fun k => (both_at _ _ _ _ k).symm) (fun _ => rfl) (fun k => mixed_eq m c h2 h3 h4 h5 h6 _ _ k) (fun _ => rfl)

end Cert.Agree3
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Pre_finite2
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Pre_finite3
public import proofs.«01_k».proof.Proof.Agree
public import proofs.«01_k».proof.Proof.Agree2
public import proofs.«01_k».proof.Proof.Agree3
public import Idealize.ShloMosaic.Adequacy
public import Idealize.ShloMosaic.Init

@[expose] public section

noncomputable section

namespace Cert.Proof

open Idealize.ShloMosaic Idealize.SL.Sem Cert.Kernel

/-- The reference's frame, under any precondition: it computes on the host alone and declares no semaphore. -/
theorem frame_reference : @Cert.quiescent_ReferenceIdeal Cert.ReferenceIdeal.Gen.facts := fun m g _ =>
  (θ_run Cert.ReferenceIdeal.defs _ _).mono (fun r h => ⟨fun c => (h c).2, Idealize.ShloMosaic.sem_eq_zero_of_no_sems (by decide) r.2⟩)
    (Cert.ReferenceIdeal.Value.run m g)

/-- The two results agree on launches whose arguments agree and whose attention operands are real. -/
theorem agree : @Cert.algebraic_KernelIdeal_ReferenceIdeal_pre_finite Cert.KernelIdeal.Gen.facts Cert.ReferenceIdeal.Gen.facts Cert.Pre_finite.Gen.facts := by
  intro m g m' g' hp hag
  refine ⟨fun c => Cert.KernelIdeal.Value.G10 m c, Cert.KernelIdeal.Value.run m g, (θ_run _ _ _).mono (fun r h c => ?_) (Cert.ReferenceIdeal.Value.run m' g')⟩
  refine ⟨(h c).1.trans ?_, (h c).2⟩
  obtain ⟨h1, h2, h3, h4, h5⟩ := @Cert.Pre_finite.Own.reals Cert.Pre_finite.Gen.facts _ _ _ _ _ _ _ _ _ _ (hp c)
  obtain ⟨g0, g1, g2, g3, g4, g5, g6, g7, g8, g9⟩ := hag c
  rw [Cert.ReferenceIdeal.Read.val_main_v54_eq, g0, g1, g2, g3, g4, g5, g6, g7, g8, g9]
  exact (Cert.Agree.entry_eq m c h1 h2 h3 h4 h5).symm

/-- The projection's reference: its frame, as the first reference's. -/
theorem frame_reference2 : @Cert.quiescent_Reference2Ideal Cert.Reference2Ideal.Gen.facts := fun m g _ =>
  (θ_run Cert.Reference2Ideal.defs _ _).mono (fun r h => ⟨fun c => (h c).2.2, Idealize.ShloMosaic.sem_eq_zero_of_no_sems (by decide) r.2⟩)
    (Cert.Reference2Ideal.Value.run m g)

/-- The projection's two named constants are the scales the reference computes. -/
theorem preserves2 : Cert.preserves_Kernel2_Kernel2Ideal :=
  ⟨IdealRules.named_const.statement Cert.Kernel2Ideal.κ "head_scale" .f32 0x3DB504F3#32 (((Real.sqrt 128)⁻¹ : ℝ) : EReal) rfl,
    IdealRules.named_const.statement Cert.Kernel2Ideal.κ "query_scale" .f32 0x3E0293EE#32 (((Real.sqrt 128)⁻¹ * (Real.log 2)⁻¹ : ℝ) : EReal) rfl⟩

/-- The projection's two results agree on launches whose arguments agree and whose activations and weight are real. -/
theorem agree2 : @Cert.algebraic_Kernel2Ideal_Reference2Ideal_pre_finite2 Cert.Kernel2Ideal.Gen.facts Cert.Reference2Ideal.Gen.facts Cert.Pre_finite2.Gen.facts := by
  intro m g m' g' hp hag
  refine ⟨fun c => Cert.Kernel2Ideal.Own.actsArr m c, fun c => Cert.Kernel2Ideal.Own.decayArr m c,
    (θ_run _ _ _).mono (fun r h c => ⟨(h c).1.trans (Cert.Kernel2Ideal.Own.final6 m c), (h c).2.1.trans (Cert.Kernel2Ideal.Own.final7 m c), (h c).2.2⟩)
      (Cert.Kernel2Ideal.Value.run_blocks m g),
    (θ_run _ _ _).mono (fun r h c => ?_) (Cert.Reference2Ideal.Value.run m' g')⟩
  obtain ⟨h0, h2⟩ := @Cert.Pre_finite2.Own.reals Cert.Pre_finite2.Gen.facts _ _ _ _ _ (hp c)
  obtain ⟨g0, g1, g2, g3, g4⟩ := hag c
  refine ⟨(h c).1.trans ?_, (h c).2.1.trans ?_, (h c).2.2⟩
  · rw [Cert.Reference2Ideal.Read.val_main_v110_eq, g0, g1, g2, g3, g4]
    exact (Cert.Agree2.acts_eq m c h0 h2).symm
  · rw [Cert.Reference2Ideal.Read.val_main_v114_eq, g0, g2, g3, g4]
    exact (Cert.Agree2.decay_eq m c).symm

/-- The reference of layer 0's output projection: its frame, as the first reference's. -/
theorem frame_reference3 : @Cert.quiescent_Reference3Ideal Cert.Reference3Ideal.Gen.facts := fun m g _ =>
  (θ_run Cert.Reference3Ideal.defs _ _).mono (fun r h => ⟨fun c => (h c).2, Idealize.ShloMosaic.sem_eq_zero_of_no_sems (by decide) r.2⟩)
    (Cert.Reference3Ideal.Value.run m g)

/-- The results of layer 0's output projection and of its reference agree on launches whose arguments agree and whose attention operands are real. -/
theorem agree3 : @Cert.algebraic_Kernel3Ideal_Reference3Ideal_pre_finite3 Cert.Kernel3Ideal.Gen.facts Cert.Reference3Ideal.Gen.facts Cert.Pre_finite3.Gen.facts := by
  intro m g m' g' hp hag
  refine ⟨fun c => Cert.Kernel3Ideal.Value.G11 m c, Cert.Kernel3Ideal.Value.run m g, (θ_run _ _ _).mono (fun r h c => ?_) (Cert.Reference3Ideal.Value.run m' g')⟩
  refine ⟨(h c).1.trans ?_, (h c).2⟩
  obtain ⟨h2, h3, h4, h5, h6⟩ := @Cert.Pre_finite3.Own.reals Cert.Pre_finite3.Gen.facts _ _ _ _ _ _ _ _ _ _ _ (hp c)
  obtain ⟨g0, g1, g2, g3, g4, g5, g6, g7, g8, g9, g10⟩ := hag c
  rw [Cert.Reference3Ideal.Read.val_main_v55_eq, g0, g1, g2, g3, g4, g5, g6, g7, g8, g9, g10]
  exact (Cert.Agree3.entry_eq m c h2 h3 h4 h5 h6).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.Gen.facts, Cert.Pre_finite2.Gen.facts, Cert.Pre_finite3.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, fun m ρ _ => Cert.Kernel2Ideal.Gen.frame m ρ,
  frame_reference2, fun m ρ _ => frame_reference2 m ρ trivial,
  fun m ρ _ => Cert.Kernel3.Gen.frame m ρ, fun m ρ _ => Cert.Kernel3Ideal.Gen.frame m ρ, fun m ρ _ => Cert.Kernel3Ideal.Gen.frame m ρ,
  frame_reference3, fun m ρ _ => frame_reference3 m ρ trivial, trivial, agree, preserves2, agree2, trivial, agree3⟩

end Cert.Proof

end
